-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v8)) (v5 : (c : Dev Cert.KernelIdeal.nD) → Buf (Elt Ideal) ((c.tc : Thread Cert.KernelIdeal.nD Cert.KernelIdeal.τ).loc Cert.KernelIdeal.main_v5_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_v8) = v4 c
          ∧ r.2.mem ((c.tc : Thread Cert.KernelIdeal.nD Cert.KernelIdeal.τ).loc Cert.KernelIdeal.main_v5_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v377) = v0 c
          ∧ r.2.mem ((c.tc : Thread Cert.ReferenceIdeal.nD Cert.ReferenceIdeal.τ).loc Cert.ReferenceIdeal.main_v378) = v1 c
          ∧ r.2.mem ((c.tc : Thread Cert.ReferenceIdeal.nD Cert.ReferenceIdeal.τ).loc Cert.ReferenceIdeal.main_v11) = v2 c
          ∧ r.2.mem ((c.tc : Thread Cert.ReferenceIdeal.nD Cert.ReferenceIdeal.τ).loc Cert.ReferenceIdeal.main_v19) = v3 c
          ∧ r.2.mem ((c.tc : Thread Cert.ReferenceIdeal.nD Cert.ReferenceIdeal.τ).loc Cert.ReferenceIdeal.main_v14) = v4 c
          ∧ r.2.mem ((c.tc : Thread Cert.ReferenceIdeal.nD Cert.ReferenceIdeal.τ).loc Cert.ReferenceIdeal.main_v20) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S3x512x10x128 : Shape := ⟨4, ![3, 512, 10, 128]⟩
abbrev S3x512x20x256 : Shape := ⟨4, ![3, 512, 20, 256]⟩
abbrev S3x512x20 : Shape := ⟨3, ![3, 512, 20]⟩
abbrev S3x20x128x256 : Shape := ⟨4, ![3, 20, 128, 256]⟩
abbrev S_ : Shape := ⟨0, ![]⟩

class Facts : Prop where
  bitsLt_bf16_f32 : FTy.bits .bf16 < FTy.bits .f32
  bcast_S_S3x512x10x128 : S_.BroadcastsInDim S3x512x10x128 (![] : Fin 0 → Fin S3x512x10x128.rank)
  bcast_S_S3x512x20x256 : S_.BroadcastsInDim S3x512x20x256 (![] : Fin 0 → Fin S3x512x20x256.rank)
  bcast_S_S3x512x20 : S_.BroadcastsInDim S3x512x20 (![] : Fin 0 → Fin S3x512x20.rank)
  bcast_S_S3x20x128x256 : S_.BroadcastsInDim S3x20x128x256 (![] : Fin 0 → Fin S3x20x128x256.rank)

variable [Facts]

def fn_part1 {F : FTy → Type} [FloatOps F] (main_v3 : IVec S3x512x10x128 1) (main_v7 : IVec S3x512x10x128 1) (main_v11 : IVec S3x512x20x256 1) (main_v14 : IVec S3x512x20 1) (main_v17 : IVec S3x512x20 1) (main_v18 : FVec F S3x20x128x256 .f32) : IVec S3x512x10x128 1 × IVec S3x512x10x128 1 × IVec S3x512x20x256 1 × IVec S3x512x20 1 × IVec S3x512x20 1 × IVec S3x20x128x256 1 :=
  let main_cst_4 : FVec F S_ .f32 := constant S_ .f32 0x7F7FFFFF#32
  let main_v19 : FVec F S3x20x128x256 .f32 := broadcastInDim S3x20x128x256 ![] bcast_S_S3x20x128x256 main_cst_4
  let main_v20 : IVec S3x20x128x256 1 := cmpf .ole main_v18 main_v19
  (main_v3, main_v7, main_v11, main_v14, main_v17, main_v20)

def fn {F : FTy → Type} [FloatOps F] (main_arg0 : FVec F S3x512x10x128 .bf16) (main_arg1 : FVec F S3x512x10x128 .bf16) (main_arg2 : FVec F S3x512x20x256 .bf16) (main_arg3 : FVec F S3x512x20 .f32) (main_arg4 : FVec F S3x512x20 .f32) (main_arg5 : FVec F S3x20x128x256 .f32) : IVec S3x512x10x128 1 × IVec S3x512x10x128 1 × IVec S3x512x20x256 1 × IVec S3x512x20 1 × IVec S3x512x20 1 × IVec S3x20x128x256 1 :=
  let main_v0 : FVec F S3x512x10x128 .f32 := (extf .f32 · bitsLt_bf16_f32) main_arg0
  let main_v1 : FVec F S3x512x10x128 .f32 := Host.absf main_v0
  let main_cst : FVec F S_ .f32 := constant S_ .f32 0x7F7F0000#32
  let main_v2 : FVec F S3x512x10x128 .f32 := broadcastInDim S3x512x10x128 ![] bcast_S_S3x512x10x128 main_cst
  let main_v3 : IVec S3x512x10x128 1 := cmpf .ole main_v1 main_v2
  let main_v4 : FVec F S3x512x10x128 .f32 := (extf .f32 · bitsLt_bf16_f32) main_arg1
  let main_v5 : FVec F S3x512x10x128 .f32 := Host.absf main_v4
  let main_cst_0 : FVec F S_ .f32 := constant S_ .f32 0x7F7F0000#32
  let main_v6 : FVec F S3x512x10x128 .f32 := broadcastInDim S3x512x10x128 ![] bcast_S_S3x512x10x128 main_cst_0
  let main_v7 : IVec S3x512x10x128 1 := cmpf .ole main_v5 main_v6
  let main_v8 : FVec F S3x512x20x256 .f32 := (extf .f32 · bitsLt_bf16_f32) main_arg2
  let main_v9 : FVec F S3x512x20x256 .f32 := Host.absf main_v8
  let main_cst_1 : FVec F S_ .f32 := constant S_ .f32 0x7F7F0000#32
  let main_v10 : FVec F S3x512x20x256 .f32 := broadcastInDim S3x512x20x256 ![] bcast_S_S3x512x20x256 main_cst_1
  let main_v11 : IVec S3x512x20x256 1 := cmpf .ole main_v9 main_v10
  let main_v12 : FVec F S3x512x20 .f32 := Host.absf main_arg3
  let main_cst_2 : FVec F S_ .f32 := constant S_ .f32 0x7F7FFFFF#32
  let main_v13 : FVec F S3x512x20 .f32 := broadcastInDim S3x512x20 ![] bcast_S_S3x512x20 main_cst_2
  let main_v14 : IVec S3x512x20 1 := cmpf .ole main_v12 main_v13
  let main_v15 : FVec F S3x512x20 .f32 := Host.absf main_arg4
  let main_cst_3 : FVec F S_ .f32 := constant S_ .f32 0x7F7FFFFF#32
  let main_v16 : FVec F S3x512x20 .f32 := broadcastInDim S3x512x20 ![] bcast_S_S3x512x20 main_cst_3
  let main_v17 : IVec S3x512x20 1 := cmpf .ole main_v15 main_v16
  let main_v18 : FVec F S3x20x128x256 .f32 := Host.absf main_arg5
  fn_part1 (F := F) main_v3 main_v7 main_v11 main_v14 main_v17 main_v18
-- ==== Kernel.lean ====
abbrev S3x512x10x128 : Shape := ⟨4, ![3, 512, 10, 128]⟩
abbrev S3x512x20x256 : Shape := ⟨4, ![3, 512, 20, 256]⟩
abbrev S3x512x20 : Shape := ⟨3, ![3, 512, 20]⟩
abbrev S3x20x128x256 : Shape := ⟨4, ![3, 20, 128, 256]⟩
abbrev S3x10x512x128 : Shape := ⟨4, ![3, 10, 512, 128]⟩
abbrev S3x20x512x256 : Shape := ⟨4, ![3, 20, 512, 256]⟩
abbrev S3x20x512 : Shape := ⟨3, ![3, 20, 512]⟩
abbrev S3x8x10 : Shape := ⟨3, ![3, 8, 10]⟩
abbrev S1x10x64x128 : Shape := ⟨4, ![1, 10, 64, 128]⟩
abbrev S1x20x64x256 : Shape := ⟨4, ![1, 20, 64, 256]⟩
abbrev S1x20x512 : Shape := ⟨3, ![1, 20, 512]⟩
abbrev S1x20x128x256 : Shape := ⟨4, ![1, 20, 128, 256]⟩
abbrev S1x8x10 : Shape := ⟨3, ![1, 8, 10]⟩
abbrev S512x20 : Shape := ⟨2, ![512, 20]⟩
abbrev S20x512 : Shape := ⟨2, ![20, 512]⟩
abbrev S64x64 : Shape := ⟨2, ![64, 64]⟩
abbrev S64x20 : Shape := ⟨2, ![64, 20]⟩
abbrev S20x64 : Shape := ⟨2, ![20, 64]⟩
abbrev S1x128 : Shape := ⟨2, ![1, 128]⟩
abbrev S8x10 : Shape := ⟨2, ![8, 10]⟩
abbrev S1x10 : Shape := ⟨2, ![1, 10]⟩
abbrev S1x1x64x128 : Shape := ⟨4, ![1, 1, 64, 128]⟩
abbrev S64x128 : Shape := ⟨2, ![64, 128]⟩
abbrev S128 : Shape := ⟨1, ![128]⟩
abbrev S1 : Shape := ⟨1, ![1]⟩
abbrev S1x1 : Shape := ⟨2, ![1, 1]⟩
abbrev S1x256 : Shape := ⟨2, ![1, 256]⟩
abbrev S64 : Shape := ⟨1, ![64]⟩
abbrev S64x1 : Shape := ⟨2, ![64, 1]⟩
abbrev S1x64 : Shape := ⟨2, ![1, 64]⟩
abbrev S32x128 : Shape := ⟨2, ![32, 128]⟩
abbrev S32x128x1 : Shape := ⟨3, ![32, 128, 1]⟩
abbrev S32x32 : Shape := ⟨2, ![32, 32]⟩
abbrev S32x64 : Shape := ⟨2, ![32, 64]⟩
abbrev S1x1x128x256 : Shape := ⟨4, ![1, 1, 128, 256]⟩
abbrev S128x256 : Shape := ⟨2, ![128, 256]⟩
abbrev S64x256 : Shape := ⟨2, ![64, 256]⟩
abbrev S1x1x64x256 : Shape := ⟨4, ![1, 1, 64, 256]⟩

abbrev nBuf : Space → Nat
  | .hbm => 20
  | .vmem => 26
  | .smem => 0
  | _ => 0

abbrev bufTy : (tb : Table) → Fin (tcTables nBuf tb) → BufTy
  | .hbm, ⟨0, _⟩ => ⟨S3x512x10x128, .bf16⟩
  | .hbm, ⟨1, _⟩ => ⟨S3x512x10x128, .bf16⟩
  | .hbm, ⟨2, _⟩ => ⟨S3x512x20x256, .bf16⟩
  | .hbm, ⟨3, _⟩ => ⟨S3x512x20, .f32⟩
  | .hbm, ⟨4, _⟩ => ⟨S3x512x20, .f32⟩
  | .hbm, ⟨5, _⟩ => ⟨S3x20x128x256, .f32⟩
  | .hbm, ⟨6, _⟩ => ⟨S3x10x512x128, .bf16⟩
  | .hbm, ⟨7, _⟩ => ⟨S3x10x512x128, .bf16⟩
  | .hbm, ⟨8, _⟩ => ⟨S3x20x512x256, .bf16⟩
  | .hbm, ⟨9, _⟩ => ⟨S3x20x512, .f32⟩
  | .hbm, ⟨10, _⟩ => ⟨S3x20x512, .f32⟩
  | .hbm, ⟨11, _⟩ => ⟨S3x20x512x256, .bf16⟩
  | .hbm, ⟨12, _⟩ => ⟨S3x20x128x256, .f32⟩
  | .hbm, ⟨13, _⟩ => ⟨S3x10x512x128, .fp8e4m3⟩
  | .hbm, ⟨14, _⟩ => ⟨S3x8x10, .f32⟩
  | .hbm, ⟨15, _⟩ => ⟨S3x10x512x128, .fp8e4m3⟩
  | .hbm, ⟨16, _⟩ => ⟨S3x8x10, .f32⟩
  | .hbm, ⟨17, _⟩ => ⟨S3x512x20x256, .bf16⟩
  | .hbm, ⟨18, _⟩ => ⟨S3x512x10x128, .fp8e4m3⟩
  | .hbm, ⟨19, _⟩ => ⟨S3x512x10x128, .fp8e4m3⟩
  | .local _ .vmem, ⟨0, _⟩ => ⟨S1x10x64x128, .bf16⟩
  | .local _ .vmem, ⟨1, _⟩ => ⟨S1x10x64x128, .bf16⟩
  | .local _ .vmem, ⟨2, _⟩ => ⟨S1x10x64x128, .bf16⟩
  | .local _ .vmem, ⟨3, _⟩ => ⟨S1x10x64x128, .bf16⟩
  | .local _ .vmem, ⟨4, _⟩ => ⟨S1x20x64x256, .bf16⟩
  | .local _ .vmem, ⟨5, _⟩ => ⟨S1x20x64x256, .bf16⟩
  | .local _ .vmem, ⟨6, _⟩ => ⟨S1x20x512, .f32⟩
  | .local _ .vmem, ⟨7, _⟩ => ⟨S1x20x512, .f32⟩
  | .local _ .vmem, ⟨8, _⟩ => ⟨S1x20x512, .f32⟩
  | .local _ .vmem, ⟨9, _⟩ => ⟨S1x20x512, .f32⟩
  | .local _ .vmem, ⟨10, _⟩ => ⟨S1x20x128x256, .f32⟩
  | .local _ .vmem, ⟨11, _⟩ => ⟨S1x20x128x256, .f32⟩
  | .local _ .vmem, ⟨12, _⟩ => ⟨S1x20x64x256, .bf16⟩
  | .local _ .vmem, ⟨13, _⟩ => ⟨S1x20x64x256, .bf16⟩
  | .local _ .vmem, ⟨14, _⟩ => ⟨S1x20x128x256, .f32⟩
  | .local _ .vmem, ⟨15, _⟩ => ⟨S1x20x128x256, .f32⟩
  | .local _ .vmem, ⟨16, _⟩ => ⟨S1x10x64x128, .fp8e4m3⟩
  | .local _ .vmem, ⟨17, _⟩ => ⟨S1x10x64x128, .fp8e4m3⟩
  | .local _ .vmem, ⟨18, _⟩ => ⟨S1x8x10, .f32⟩
  | .local _ .vmem, ⟨19, _⟩ => ⟨S1x8x10, .f32⟩
  | .local _ .vmem, ⟨20, _⟩ => ⟨S1x10x64x128, .fp8e4m3⟩
  | .local _ .vmem, ⟨21, _⟩ => ⟨S1x10x64x128, .fp8e4m3⟩
  | .local _ .vmem, ⟨22, _⟩ => ⟨S1x8x10, .f32⟩
  | .local _ .vmem, ⟨23, _⟩ => ⟨S1x8x10, .f32⟩
  | .local _ .vmem, ⟨24, _⟩ => ⟨S512x20, .f32⟩
  | .local _ .vmem, ⟨25, _⟩ => ⟨S512x20, .f32⟩
  | _, _ => ⟨S3x512x10x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev main_v5_5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![3, 8], ![false, false]⟩

def k0_off1 (i : grid0.Coords) : Fin 2 → Nat :=
  let arg1 : BitVec 32 := BitVec.ofNat 32 (i 1).val
  let c64_i32 : BitVec 32 := 64#32
  let v9 : BitVec 32 := Scalar.muli arg1 c64_i32
  let v10 : Index := Scalar.indexCast v9
  let c0 : Index := 0#32
  ![v10.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x10x64x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x10x64x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x20x64x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x20x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x20x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x20x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x20x64x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x20x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x10x64x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x10 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x10x64x128 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x10 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S3x512x10x128 : Shape := ⟨4, ![3, 512, 10, 128]⟩
abbrev S3x512x20x256 : Shape := ⟨4, ![3, 512, 20, 256]⟩
abbrev S3x512x20 : Shape := ⟨3, ![3, 512, 20]⟩
abbrev S3x20x128x256 : Shape := ⟨4, ![3, 20, 128, 256]⟩
abbrev S3x8x64x10x128 : Shape := ⟨5, ![3, 8, 64, 10, 128]⟩
abbrev S3x8x10x64x128 : Shape := ⟨5, ![3, 8, 10, 64, 128]⟩
abbrev S240x8192 : Shape := ⟨2, ![240, 8192]⟩
abbrev S240x1 : Shape := ⟨2, ![240, 1]⟩
abbrev S240 : Shape := ⟨1, ![240]⟩
abbrev S1x254 : Shape := ⟨2, ![1, 254]⟩
abbrev S240x254 : Shape := ⟨2, ![240, 254]⟩
abbrev S3x8x10 : Shape := ⟨3, ![3, 8, 10]⟩
abbrev S_ : Shape := ⟨0, ![]⟩
abbrev S3x512x10 : Shape := ⟨3, ![3, 512, 10]⟩
abbrev S3x8x64x10 : Shape := ⟨4, ![3, 8, 64, 10]⟩
abbrev S3x8x1x10x1 : Shape := ⟨5, ![3, 8, 1, 10, 1]⟩
abbrev S3x8x64x10x1 : Shape := ⟨5, ![3, 8, 64, 10, 1]⟩
abbrev S8x3x10x64x128 : Shape := ⟨5, ![8, 3, 10, 64, 128]⟩
abbrev S8x3x10x64 : Shape := ⟨4, ![8, 3, 10, 64]⟩
abbrev S8x3x10 : Shape := ⟨3, ![8, 3, 10]⟩
abbrev S8x3x10x1x1 : Shape := ⟨5, ![8, 3, 10, 1, 1]⟩
abbrev S8x3x10x64x64 : Shape := ⟨5, ![8, 3, 10, 64, 64]⟩
abbrev S8x3x10x64x1 : Shape := ⟨5, ![8, 3, 10, 64, 1]⟩
abbrev S8x3x10x1x64 : Shape := ⟨5, ![8, 3, 10, 1, 64]⟩
abbrev S3x8x64x10x2 : Shape := ⟨5, ![3, 8, 64, 10, 2]⟩
abbrev S8x3x10x2x64 : Shape := ⟨5, ![8, 3, 10, 2, 64]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S8x3x10x2x64x1 : Shape := ⟨6, ![8, 3, 10, 2, 64, 1]⟩
abbrev S8x3x10x2x1x64 : Shape := ⟨6, ![8, 3, 10, 2, 1, 64]⟩
abbrev S8x3x10x2x64x64 : Shape := ⟨6, ![8, 3, 10, 2, 64, 64]⟩
abbrev S8x3x10x1x64x64 : Shape := ⟨6, ![8, 3, 10, 1, 64, 64]⟩
abbrev S1x1x1x1x64x64 : Shape := ⟨6, ![1, 1, 1, 1, 64, 64]⟩
abbrev S8x3x10x1x64x128 : Shape := ⟨6, ![8, 3, 10, 1, 64, 128]⟩
abbrev S8x3x10x2x64x128 : Shape := ⟨6, ![8, 3, 10, 2, 64, 128]⟩
abbrev S3x8x64x10x2x256 : Shape := ⟨6, ![3, 8, 64, 10, 2, 256]⟩
abbrev S3x8x64x10x2x1 : Shape := ⟨6, ![3, 8, 64, 10, 2, 1]⟩
abbrev S8x3x10x2x64x256 : Shape := ⟨6, ![8, 3, 10, 2, 64, 256]⟩
abbrev S8x3x10x2x1 : Shape := ⟨5, ![8, 3, 10, 2, 1]⟩
abbrev S8x3x10x2 : Shape := ⟨4, ![8, 3, 10, 2]⟩
abbrev S3x10x2x128x256 : Shape := ⟨5, ![3, 10, 2, 128, 256]⟩
abbrev S1x3x10x2x64x128 : Shape := ⟨6, ![1, 3, 10, 2, 64, 128]⟩
abbrev S3x10x2x64x128 : Shape := ⟨5, ![3, 10, 2, 64, 128]⟩
abbrev S1x3x10x2x64x256 : Shape := ⟨6, ![1, 3, 10, 2, 64, 256]⟩
abbrev S3x10x2x64x256 : Shape := ⟨5, ![3, 10, 2, 64, 256]⟩
abbrev S1x3x10x2x64x64 : Shape := ⟨6, ![1, 3, 10, 2, 64, 64]⟩
abbrev S3x10x2x64x64 : Shape := ⟨5, ![3, 10, 2, 64, 64]⟩
abbrev S1x3x10x2 : Shape := ⟨4, ![1, 3, 10, 2]⟩
abbrev S3x10x2 : Shape := ⟨3, ![3, 10, 2]⟩
abbrev S3x10x2x256x64 : Shape := ⟨5, ![3, 10, 2, 256, 64]⟩
abbrev S3x64x10x2x256 : Shape := ⟨5, ![3, 64, 10, 2, 256]⟩
abbrev S3x10x2x1x1 : Shape := ⟨5, ![3, 10, 2, 1, 1]⟩
abbrev S1x3x64x10x2x256 : Shape := ⟨6, ![1, 3, 64, 10, 2, 256]⟩
abbrev S8x3x64x10x2x256 : Shape := ⟨6, ![8, 3, 64, 10, 2, 256]⟩

abbrev nBuf : Space → Nat
  | .hbm => 413
  | .vmem => 8
  | .smem => 0
  | _ => 0

abbrev hbmTy0_0 (i : Nat) : BufTy := match i % 128 with
  | 0 => ⟨S3x512x10x128, .bf16⟩
  | 1 => ⟨S3x512x10x128, .bf16⟩
  | 2 => ⟨S3x512x20x256, .bf16⟩
  | 3 => ⟨S3x512x20, .f32⟩
  | 4 => ⟨S3x512x20, .f32⟩
  | 5 => ⟨S3x20x128x256, .f32⟩
  | 6 => ⟨S3x512x10x128, .f32⟩
  | 7 => ⟨S3x8x64x10x128, .f32⟩
  | 8 => ⟨S3x8x10x64x128, .f32⟩
  | 9 => ⟨S240x8192, .f32⟩
  | 10 => ⟨S3x512x10x128, .f32⟩
  | 11 => ⟨S3x8x64x10x128, .f32⟩
  | 12 => ⟨S3x8x10x64x128, .f32⟩
  | 13 => ⟨S240x8192, .f32⟩
  | 14 => ⟨S240x8192, .fp8e4m3⟩
  | 15 => ⟨S240x8192, .f32⟩
  | 16 => ⟨S240x1, .f32⟩
  | 17 => ⟨S240x8192, .fp8e4m3⟩
  | 18 => ⟨S240x8192, .f32⟩
  | 19 => ⟨S240x1, .f32⟩
  | 20 => ⟨S3x8x10x64x128, .fp8e4m3⟩
  | 21 => ⟨S3x8x64x10x128, .fp8e4m3⟩
  | 22 => ⟨S3x512x10x128, .fp8e4m3⟩
  | 23 => ⟨S3x8x10x64x128, .fp8e4m3⟩
  | 24 => ⟨S3x8x64x10x128, .fp8e4m3⟩
  | 25 => ⟨S3x512x10x128, .fp8e4m3⟩
  | 26 => ⟨S3x8x10x64x128, .f32⟩
  | 27 => ⟨S3x8x64x10x128, .f32⟩
  | 28 => ⟨S3x8x10x64x128, .f32⟩
  | 29 => ⟨S3x8x64x10x128, .f32⟩
  | 30 => ⟨S3x8x10, .f32⟩
  | 31 => ⟨S3x8x10, .f32⟩
  | 32 => ⟨S3x512x10x128, .f32⟩
  | 33 => ⟨S3x512x10x128, .f32⟩
  | 34 => ⟨S_, .f32⟩
  | 35 => ⟨S3x512x10, .f32⟩
  | 36 => ⟨S_, .f32⟩
  | 37 => ⟨S3x512x10, .f32⟩
  | 38 => ⟨S3x512x10, .f32⟩
  | 39 => ⟨S3x512x10, .f32⟩
  | 40 => ⟨S_, .f32⟩
  | 41 => ⟨S3x512x10, .f32⟩
  | 42 => ⟨S3x512x10, .f32⟩
  | 43 => ⟨S3x8x64x10, .f32⟩
  | 44 => ⟨S3x512x10x128, .f32⟩
  | 45 => ⟨S3x512x10x128, .f32⟩
  | 46 => ⟨S_, .f32⟩
  | 47 => ⟨S3x512x10, .f32⟩
  | 48 => ⟨S_, .f32⟩
  | 49 => ⟨S3x512x10, .f32⟩
  | 50 => ⟨S3x512x10, .f32⟩
  | 51 => ⟨S3x512x10, .f32⟩
  | 52 => ⟨S_, .f32⟩
  | 53 => ⟨S3x512x10, .f32⟩
  | 54 => ⟨S3x512x10, .f32⟩
  | 55 => ⟨S3x8x64x10, .f32⟩
  | 56 => ⟨S3x8x1x10x1, .f32⟩
  | 57 => ⟨S3x8x64x10x128, .f32⟩
  | 58 => ⟨S3x8x64x10x128, .f32⟩
  | 59 => ⟨S3x8x64x10x1, .f32⟩
  | 60 => ⟨S3x8x64x10x128, .f32⟩
  | 61 => ⟨S3x8x64x10x128, .f32⟩
  | 62 => ⟨S8x3x10x64x128, .f32⟩
  | 63 => ⟨S3x8x1x10x1, .f32⟩
  | 64 => ⟨S3x8x64x10x128, .f32⟩
  | 65 => ⟨S3x8x64x10x128, .f32⟩
  | 66 => ⟨S3x8x64x10x1, .f32⟩
  | 67 => ⟨S3x8x64x10x128, .f32⟩
  | 68 => ⟨S3x8x64x10x128, .f32⟩
  | 69 => ⟨S_, .f32⟩
  | 70 => ⟨S3x8x64x10x128, .f32⟩
  | 71 => ⟨S3x8x64x10x128, .f32⟩
  | 72 => ⟨S8x3x10x64x128, .f32⟩
  | 73 => ⟨S8x3x10x64, .f32⟩
  | 74 => ⟨S8x3x10x64, .f32⟩
  | 75 => ⟨S8x3x10, .f32⟩
  | 76 => ⟨S8x3x10x1x1, .f32⟩
  | 77 => ⟨S8x3x10, .f32⟩
  | 78 => ⟨S8x3x10x1x1, .f32⟩
  | 79 => ⟨S8x3x10x64x64, .f32⟩
  | 80 => ⟨S8x3x10x1x1, .f32⟩
  | 81 => ⟨S8x3x10x64x64, .f32⟩
  | 82 => ⟨S8x3x10x64x64, .f32⟩
  | 83 => ⟨S8x3x10x64x1, .f32⟩
  | 84 => ⟨S8x3x10x64x64, .f32⟩
  | 85 => ⟨S8x3x10x64x64, .f32⟩
  | 86 => ⟨S8x3x10x1x64, .f32⟩
  | 87 => ⟨S8x3x10x64x64, .f32⟩
  | 88 => ⟨S8x3x10x64x64, .f32⟩
  | 89 => ⟨S8x3x10x64x64, .f32⟩
  | 90 => ⟨S8x3x10x1x1, .f32⟩
  | 91 => ⟨S8x3x10x64x64, .f32⟩
  | 92 => ⟨S8x3x10x64x64, .f32⟩
  | 93 => ⟨S8x3x10x64x1, .f32⟩
  | 94 => ⟨S8x3x10x64x64, .f32⟩
  | 95 => ⟨S8x3x10x64x64, .f32⟩
  | 96 => ⟨S8x3x10x1x64, .f32⟩
  | 97 => ⟨S8x3x10x64x64, .f32⟩
  | 98 => ⟨S8x3x10x64x64, .f32⟩
  | 99 => ⟨S_, .f32⟩
  | 100 => ⟨S8x3x10x64x64, .f32⟩
  | 101 => ⟨S8x3x10x64x64, .f32⟩
  | 102 => ⟨S3x8x64x10x2, .f32⟩
  | 103 => ⟨S8x3x10x2x64, .f32⟩
  | 104 => ⟨S3x8x64x10x2, .f32⟩
  | 105 => ⟨S8x3x10x2x64, .f32⟩
  | 106 => ⟨S_, .f32⟩
  | 107 => ⟨S_, .f32⟩
  | 108 => ⟨S8x3x10x2x64, .f32⟩
  | 109 => ⟨S64, .i32⟩
  | 110 => ⟨S64x1, .i32⟩
  | 111 => ⟨S1x64, .i32⟩
  | 112 => ⟨S64x64, .i32⟩
  | 113 => ⟨S64x64, .i32⟩
  | 114 => ⟨S64x64, .i1⟩
  | 115 => ⟨S64x1, .i32⟩
  | 116 => ⟨S1x64, .i32⟩
  | 117 => ⟨S64x64, .i32⟩
  | 118 => ⟨S64x64, .i32⟩
  | 119 => ⟨S64x64, .i1⟩
  | 120 => ⟨S8x3x10x2x64x1, .f32⟩
  | 121 => ⟨S8x3x10x2x1x64, .f32⟩
  | 122 => ⟨S8x3x10x2x64x64, .f32⟩
  | 123 => ⟨S8x3x10x2x64x64, .f32⟩
  | 124 => ⟨S8x3x10x2x64x64, .f32⟩
  | 125 => ⟨S_, .f32⟩
  | 126 => ⟨S_, .f32⟩
  | 127 => ⟨S8x3x10x2x64x64, .i1⟩
  | _ => ⟨S3x512x10x128, .bf16⟩

abbrev hbmTy0_1 (i : Nat) : BufTy := match i % 128 with
  | 0 => ⟨S8x3x10x2x64x64, .f32⟩
  | 1 => ⟨S8x3x10x2x64x64, .f32⟩
  | 2 => ⟨S8x3x10x2x64x64, .f32⟩
  | 3 => ⟨S_, .f32⟩
  | 4 => ⟨S_, .f32⟩
  | 5 => ⟨S8x3x10x2x64x64, .i1⟩
  | 6 => ⟨S8x3x10x2x64x64, .f32⟩
  | 7 => ⟨S8x3x10x2x64x64, .f32⟩
  | 8 => ⟨S8x3x10x2x64x1, .f32⟩
  | 9 => ⟨S8x3x10x1x64x64, .f32⟩
  | 10 => ⟨S8x3x10x2x64x64, .f32⟩
  | 11 => ⟨S8x3x10x2x64x64, .f32⟩
  | 12 => ⟨S8x3x10x2x64x64, .f32⟩
  | 13 => ⟨S8x3x10x2x64x64, .f32⟩
  | 14 => ⟨S_, .f32⟩
  | 15 => ⟨S_, .f32⟩
  | 16 => ⟨S8x3x10x2x64x64, .i1⟩
  | 17 => ⟨S8x3x10x2x64x64, .f32⟩
  | 18 => ⟨S8x3x10x2x64x64, .f32⟩
  | 19 => ⟨S64x64, .i32⟩
  | 20 => ⟨S64x64, .i32⟩
  | 21 => ⟨S_, .i32⟩
  | 22 => ⟨S64x64, .i32⟩
  | 23 => ⟨S64x64, .i32⟩
  | 24 => ⟨S64x64, .i1⟩
  | 25 => ⟨S64x64, .f32⟩
  | 26 => ⟨S1x1x1x1x64x64, .f32⟩
  | 27 => ⟨S8x3x10x2x64x64, .f32⟩
  | 28 => ⟨S8x3x10x2x64x64, .f32⟩
  | 29 => ⟨S8x3x10x2x64x64, .f32⟩
  | 30 => ⟨S8x3x10x2x64x64, .f32⟩
  | 31 => ⟨S8x3x10x2x64x64, .f32⟩
  | 32 => ⟨S8x3x10x2x64x64, .f32⟩
  | 33 => ⟨S8x3x10x2x64x64, .f32⟩
  | 34 => ⟨S8x3x10x2x64x64, .f32⟩
  | 35 => ⟨S8x3x10x2x64x64, .f32⟩
  | 36 => ⟨S8x3x10x2x64x64, .f32⟩
  | 37 => ⟨S8x3x10x2x64x64, .f32⟩
  | 38 => ⟨S8x3x10x2x64x64, .f32⟩
  | 39 => ⟨S8x3x10x2x64x64, .f32⟩
  | 40 => ⟨S8x3x10x2x64x64, .f32⟩
  | 41 => ⟨S8x3x10x2x64x64, .f32⟩
  | 42 => ⟨S8x3x10x2x64x64, .f32⟩
  | 43 => ⟨S8x3x10x2x64x64, .f32⟩
  | 44 => ⟨S8x3x10x2x64, .f32⟩
  | 45 => ⟨S8x3x10x2x64, .f32⟩
  | 46 => ⟨S8x3x10x2x64x1, .f32⟩
  | 47 => ⟨S8x3x10x1x64x128, .f32⟩
  | 48 => ⟨S8x3x10x2x64x128, .f32⟩
  | 49 => ⟨S8x3x10x2x64x128, .f32⟩
  | 50 => ⟨S8x3x10x2x64x128, .f32⟩
  | 51 => ⟨S8x3x10x2x64x128, .f32⟩
  | 52 => ⟨S3x512x20x256, .f32⟩
  | 53 => ⟨S3x8x64x10x2x256, .f32⟩
  | 54 => ⟨S3x8x64x10x2, .f32⟩
  | 55 => ⟨S3x8x64x10x2x1, .f32⟩
  | 56 => ⟨S3x8x64x10x2x256, .f32⟩
  | 57 => ⟨S3x8x64x10x2x256, .f32⟩
  | 58 => ⟨S8x3x10x2x64x256, .f32⟩
  | 59 => ⟨S8x3x10x1x64x64, .f32⟩
  | 60 => ⟨S8x3x10x2x64x64, .f32⟩
  | 61 => ⟨S8x3x10x2x64x64, .f32⟩
  | 62 => ⟨S8x3x10x2x64x1, .f32⟩
  | 63 => ⟨S8x3x10x1x64x128, .f32⟩
  | 64 => ⟨S8x3x10x2x64x128, .f32⟩
  | 65 => ⟨S8x3x10x2x64x128, .f32⟩
  | 66 => ⟨S8x3x10x2x64x128, .f32⟩
  | 67 => ⟨S8x3x10x2x1, .f32⟩
  | 68 => ⟨S8x3x10x2x64, .f32⟩
  | 69 => ⟨S8x3x10x2x64, .f32⟩
  | 70 => ⟨S8x3x10x2x64, .f32⟩
  | 71 => ⟨S8x3x10x2x64x1, .f32⟩
  | 72 => ⟨S8x3x10x1x64x128, .f32⟩
  | 73 => ⟨S8x3x10x2x64x128, .f32⟩
  | 74 => ⟨S8x3x10x2x64x128, .f32⟩
  | 75 => ⟨S8x3x10x2x64x128, .f32⟩
  | 76 => ⟨S8x3x10x2x1, .f32⟩
  | 77 => ⟨S8x3x10x2, .f32⟩
  | 78 => ⟨S8x3x10x2, .f32⟩
  | 79 => ⟨S3x10x2x128x256, .f32⟩
  | 80 => ⟨S1x3x10x2x64x128, .f32⟩
  | 81 => ⟨S3x10x2x64x128, .f32⟩
  | 82 => ⟨S1x3x10x2x64x256, .f32⟩
  | 83 => ⟨S3x10x2x64x256, .f32⟩
  | 84 => ⟨S1x3x10x2x64x128, .f32⟩
  | 85 => ⟨S3x10x2x64x128, .f32⟩
  | 86 => ⟨S1x3x10x2x64x64, .f32⟩
  | 87 => ⟨S3x10x2x64x64, .f32⟩
  | 88 => ⟨S1x3x10x2x64x128, .f32⟩
  | 89 => ⟨S3x10x2x64x128, .f32⟩
  | 90 => ⟨S1x3x10x2, .f32⟩
  | 91 => ⟨S3x10x2, .f32⟩
  | 92 => ⟨S3x10x2x64x256, .f32⟩
  | 93 => ⟨S3x10x2x64x256, .f32⟩
  | 94 => ⟨S3x10x2x256x64, .f32⟩
  | 95 => ⟨S3x64x10x2x256, .f32⟩
  | 96 => ⟨S3x10x2x256x64, .f32⟩
  | 97 => ⟨S3x64x10x2x256, .f32⟩
  | 98 => ⟨S3x64x10x2x256, .f32⟩
  | 99 => ⟨S3x10x2x1x1, .f32⟩
  | 100 => ⟨S3x10x2x128x256, .f32⟩
  | 101 => ⟨S3x10x2x128x256, .f32⟩
  | 102 => ⟨S3x10x2x128x256, .f32⟩
  | 103 => ⟨S3x10x2x128x256, .f32⟩
  | 104 => ⟨S1x3x10x2x64x128, .f32⟩
  | 105 => ⟨S3x10x2x64x128, .f32⟩
  | 106 => ⟨S1x3x10x2x64x256, .f32⟩
  | 107 => ⟨S3x10x2x64x256, .f32⟩
  | 108 => ⟨S1x3x10x2x64x128, .f32⟩
  | 109 => ⟨S3x10x2x64x128, .f32⟩
  | 110 => ⟨S1x3x10x2x64x64, .f32⟩
  | 111 => ⟨S3x10x2x64x64, .f32⟩
  | 112 => ⟨S1x3x10x2x64x128, .f32⟩
  | 113 => ⟨S3x10x2x64x128, .f32⟩
  | 114 => ⟨S1x3x10x2, .f32⟩
  | 115 => ⟨S3x10x2, .f32⟩
  | 116 => ⟨S3x10x2x64x256, .f32⟩
  | 117 => ⟨S3x10x2x64x256, .f32⟩
  | 118 => ⟨S3x10x2x256x64, .f32⟩
  | 119 => ⟨S3x64x10x2x256, .f32⟩
  | 120 => ⟨S3x10x2x256x64, .f32⟩
  | 121 => ⟨S3x64x10x2x256, .f32⟩
  | 122 => ⟨S3x64x10x2x256, .f32⟩
  | 123 => ⟨S3x10x2x1x1, .f32⟩
  | 124 => ⟨S3x10x2x128x256, .f32⟩
  | 125 => ⟨S3x10x2x128x256, .f32⟩
  | 126 => ⟨S3x10x2x128x256, .f32⟩
  | 127 => ⟨S3x10x2x128x256, .f32⟩
  | _ => ⟨S3x512x10x128, .bf16⟩

abbrev hbmTy0_2 (i : Nat) : BufTy := match i % 128 with
  | 0 => ⟨S1x3x10x2x64x128, .f32⟩
  | 1 => ⟨S3x10x2x64x128, .f32⟩
  | 2 => ⟨S1x3x10x2x64x256, .f32⟩
  | 3 => ⟨S3x10x2x64x256, .f32⟩
  | 4 => ⟨S1x3x10x2x64x128, .f32⟩
  | 5 => ⟨S3x10x2x64x128, .f32⟩
  | 6 => ⟨S1x3x10x2x64x64, .f32⟩
  | 7 => ⟨S3x10x2x64x64, .f32⟩
  | 8 => ⟨S1x3x10x2x64x128, .f32⟩
  | 9 => ⟨S3x10x2x64x128, .f32⟩
  | 10 => ⟨S1x3x10x2, .f32⟩
  | 11 => ⟨S3x10x2, .f32⟩
  | 12 => ⟨S3x10x2x64x256, .f32⟩
  | 13 => ⟨S3x10x2x64x256, .f32⟩
  | 14 => ⟨S3x10x2x256x64, .f32⟩
  | 15 => ⟨S3x64x10x2x256, .f32⟩
  | 16 => ⟨S3x10x2x256x64, .f32⟩
  | 17 => ⟨S3x64x10x2x256, .f32⟩
  | 18 => ⟨S3x64x10x2x256, .f32⟩
  | 19 => ⟨S3x10x2x1x1, .f32⟩
  | 20 => ⟨S3x10x2x128x256, .f32⟩
  | 21 => ⟨S3x10x2x128x256, .f32⟩
  | 22 => ⟨S3x10x2x128x256, .f32⟩
  | 23 => ⟨S3x10x2x128x256, .f32⟩
  | 24 => ⟨S1x3x10x2x64x128, .f32⟩
  | 25 => ⟨S3x10x2x64x128, .f32⟩
  | 26 => ⟨S1x3x10x2x64x256, .f32⟩
  | 27 => ⟨S3x10x2x64x256, .f32⟩
  | 28 => ⟨S1x3x10x2x64x128, .f32⟩
  | 29 => ⟨S3x10x2x64x128, .f32⟩
  | 30 => ⟨S1x3x10x2x64x64, .f32⟩
  | 31 => ⟨S3x10x2x64x64, .f32⟩
  | 32 => ⟨S1x3x10x2x64x128, .f32⟩
  | 33 => ⟨S3x10x2x64x128, .f32⟩
  | 34 => ⟨S1x3x10x2, .f32⟩
  | 35 => ⟨S3x10x2, .f32⟩
  | 36 => ⟨S3x10x2x64x256, .f32⟩
  | 37 => ⟨S3x10x2x64x256, .f32⟩
  | 38 => ⟨S3x10x2x256x64, .f32⟩
  | 39 => ⟨S3x64x10x2x256, .f32⟩
  | 40 => ⟨S3x10x2x256x64, .f32⟩
  | 41 => ⟨S3x64x10x2x256, .f32⟩
  | 42 => ⟨S3x64x10x2x256, .f32⟩
  | 43 => ⟨S3x10x2x1x1, .f32⟩
  | 44 => ⟨S3x10x2x128x256, .f32⟩
  | 45 => ⟨S3x10x2x128x256, .f32⟩
  | 46 => ⟨S3x10x2x128x256, .f32⟩
  | 47 => ⟨S3x10x2x128x256, .f32⟩
  | 48 => ⟨S1x3x10x2x64x128, .f32⟩
  | 49 => ⟨S3x10x2x64x128, .f32⟩
  | 50 => ⟨S1x3x10x2x64x256, .f32⟩
  | 51 => ⟨S3x10x2x64x256, .f32⟩
  | 52 => ⟨S1x3x10x2x64x128, .f32⟩
  | 53 => ⟨S3x10x2x64x128, .f32⟩
  | 54 => ⟨S1x3x10x2x64x64, .f32⟩
  | 55 => ⟨S3x10x2x64x64, .f32⟩
  | 56 => ⟨S1x3x10x2x64x128, .f32⟩
  | 57 => ⟨S3x10x2x64x128, .f32⟩
  | 58 => ⟨S1x3x10x2, .f32⟩
  | 59 => ⟨S3x10x2, .f32⟩
  | 60 => ⟨S3x10x2x64x256, .f32⟩
  | 61 => ⟨S3x10x2x64x256, .f32⟩
  | 62 => ⟨S3x10x2x256x64, .f32⟩
  | 63 => ⟨S3x64x10x2x256, .f32⟩
  | 64 => ⟨S3x10x2x256x64, .f32⟩
  | 65 => ⟨S3x64x10x2x256, .f32⟩
  | 66 => ⟨S3x64x10x2x256, .f32⟩
  | 67 => ⟨S3x10x2x1x1, .f32⟩
  | 68 => ⟨S3x10x2x128x256, .f32⟩
  | 69 => ⟨S3x10x2x128x256, .f32⟩
  | 70 => ⟨S3x10x2x128x256, .f32⟩
  | 71 => ⟨S3x10x2x128x256, .f32⟩
  | 72 => ⟨S1x3x10x2x64x128, .f32⟩
  | 73 => ⟨S3x10x2x64x128, .f32⟩
  | 74 => ⟨S1x3x10x2x64x256, .f32⟩
  | 75 => ⟨S3x10x2x64x256, .f32⟩
  | 76 => ⟨S1x3x10x2x64x128, .f32⟩
  | 77 => ⟨S3x10x2x64x128, .f32⟩
  | 78 => ⟨S1x3x10x2x64x64, .f32⟩
  | 79 => ⟨S3x10x2x64x64, .f32⟩
  | 80 => ⟨S1x3x10x2x64x128, .f32⟩
  | 81 => ⟨S3x10x2x64x128, .f32⟩
  | 82 => ⟨S1x3x10x2, .f32⟩
  | 83 => ⟨S3x10x2, .f32⟩
  | 84 => ⟨S3x10x2x64x256, .f32⟩
  | 85 => ⟨S3x10x2x64x256, .f32⟩
  | 86 => ⟨S3x10x2x256x64, .f32⟩
  | 87 => ⟨S3x64x10x2x256, .f32⟩
  | 88 => ⟨S3x10x2x256x64, .f32⟩
  | 89 => ⟨S3x64x10x2x256, .f32⟩
  | 90 => ⟨S3x64x10x2x256, .f32⟩
  | 91 => ⟨S3x10x2x1x1, .f32⟩
  | 92 => ⟨S3x10x2x128x256, .f32⟩
  | 93 => ⟨S3x10x2x128x256, .f32⟩
  | 94 => ⟨S3x10x2x128x256, .f32⟩
  | 95 => ⟨S3x10x2x128x256, .f32⟩
  | 96 => ⟨S1x3x10x2x64x128, .f32⟩
  | 97 => ⟨S3x10x2x64x128, .f32⟩
  | 98 => ⟨S1x3x10x2x64x256, .f32⟩
  | 99 => ⟨S3x10x2x64x256, .f32⟩
  | 100 => ⟨S1x3x10x2x64x128, .f32⟩
  | 101 => ⟨S3x10x2x64x128, .f32⟩
  | 102 => ⟨S1x3x10x2x64x64, .f32⟩
  | 103 => ⟨S3x10x2x64x64, .f32⟩
  | 104 => ⟨S1x3x10x2x64x128, .f32⟩
  | 105 => ⟨S3x10x2x64x128, .f32⟩
  | 106 => ⟨S1x3x10x2, .f32⟩
  | 107 => ⟨S3x10x2, .f32⟩
  | 108 => ⟨S3x10x2x64x256, .f32⟩
  | 109 => ⟨S3x10x2x64x256, .f32⟩
  | 110 => ⟨S3x10x2x256x64, .f32⟩
  | 111 => ⟨S3x64x10x2x256, .f32⟩
  | 112 => ⟨S3x10x2x256x64, .f32⟩
  | 113 => ⟨S3x64x10x2x256, .f32⟩
  | 114 => ⟨S3x64x10x2x256, .f32⟩
  | 115 => ⟨S3x10x2x1x1, .f32⟩
  | 116 => ⟨S3x10x2x128x256, .f32⟩
  | 117 => ⟨S3x10x2x128x256, .f32⟩
  | 118 => ⟨S3x10x2x128x256, .f32⟩
  | 119 => ⟨S3x10x2x128x256, .f32⟩
  | 120 => ⟨S1x3x10x2x64x128, .f32⟩
  | 121 => ⟨S3x10x2x64x128, .f32⟩
  | 122 => ⟨S1x3x10x2x64x256, .f32⟩
  | 123 => ⟨S3x10x2x64x256, .f32⟩
  | 124 => ⟨S1x3x10x2x64x128, .f32⟩
  | 125 => ⟨S3x10x2x64x128, .f32⟩
  | 126 => ⟨S1x3x10x2x64x64, .f32⟩
  | 127 => ⟨S3x10x2x64x64, .f32⟩
  | _ => ⟨S3x512x10x128, .bf16⟩

abbrev hbmTy0_3 (i : Nat) : BufTy := match i % 128 with
  | 0 => ⟨S1x3x10x2x64x128, .f32⟩
  | 1 => ⟨S3x10x2x64x128, .f32⟩
  | 2 => ⟨S1x3x10x2, .f32⟩
  | 3 => ⟨S3x10x2, .f32⟩
  | 4 => ⟨S3x10x2x64x256, .f32⟩
  | 5 => ⟨S3x10x2x64x256, .f32⟩
  | 6 => ⟨S3x10x2x256x64, .f32⟩
  | 7 => ⟨S3x64x10x2x256, .f32⟩
  | 8 => ⟨S3x10x2x256x64, .f32⟩
  | 9 => ⟨S3x64x10x2x256, .f32⟩
  | 10 => ⟨S3x64x10x2x256, .f32⟩
  | 11 => ⟨S3x10x2x1x1, .f32⟩
  | 12 => ⟨S3x10x2x128x256, .f32⟩
  | 13 => ⟨S3x10x2x128x256, .f32⟩
  | 14 => ⟨S3x10x2x128x256, .f32⟩
  | 15 => ⟨S3x10x2x128x256, .f32⟩
  | 16 => ⟨S1x3x64x10x2x256, .f32⟩
  | 17 => ⟨S1x3x64x10x2x256, .f32⟩
  | 18 => ⟨S1x3x64x10x2x256, .f32⟩
  | 19 => ⟨S1x3x64x10x2x256, .f32⟩
  | 20 => ⟨S1x3x64x10x2x256, .f32⟩
  | 21 => ⟨S1x3x64x10x2x256, .f32⟩
  | 22 => ⟨S1x3x64x10x2x256, .f32⟩
  | 23 => ⟨S1x3x64x10x2x256, .f32⟩
  | 24 => ⟨S8x3x64x10x2x256, .f32⟩
  | 25 => ⟨S3x8x64x10x2x256, .f32⟩
  | 26 => ⟨S3x512x20x256, .f32⟩
  | 27 => ⟨S3x512x20x256, .bf16⟩
  | 28 => ⟨S3x20x128x256, .f32⟩
  | _ => ⟨S3x512x10x128, .bf16⟩

abbrev hbmTy (i : Nat) : BufTy := match i / 128 with
  | 0 => hbmTy0_0 i
  | 1 => hbmTy0_1 i
  | 2 => hbmTy0_2 i
  | 3 => hbmTy0_3 i
  | _ => ⟨S3x512x10x128, .bf16⟩

abbrev bufTy : (tb : Table) → Fin (tcTables nBuf tb) → BufTy
  | .hbm, ⟨i, _⟩ => hbmTy i
  | .local _ .vmem, ⟨0, _⟩ => ⟨S240x8192, .f32⟩
  | .local _ .vmem, ⟨1, _⟩ => ⟨S240x8192, .f32⟩
  | .local _ .vmem, ⟨2, _⟩ => ⟨S240x8192, .fp8e4m3⟩
  | .local _ .vmem, ⟨3, _⟩ => ⟨S240x8192, .f32⟩
  | .local _ .vmem, ⟨4, _⟩ => ⟨S240x1, .f32⟩
  | .local _ .vmem, ⟨5, _⟩ => ⟨S240x8192, .fp8e4m3⟩
  | .local _ .vmem, ⟨6, _⟩ => ⟨S240x8192, .f32⟩
  | .local _ .vmem, ⟨7, _⟩ => ⟨S240x1, .f32⟩
  | _, _ => ⟨S3x512x10x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev main_v8_4 : Ref sig .tc := ⟨.hbm, 18, rfl⟩
abbrev main_v8_5 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_cst_0 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_1 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_2 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_4 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_5 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_cst_6 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_call0_call0_cst : Ref sig .tc := ⟨.hbm, 106, rfl⟩
abbrev main_call0_call0_v0 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_cst_7 : Ref sig .tc := ⟨.hbm, 125, rfl⟩
abbrev main_call1_v0 : Ref sig .tc := ⟨.hbm, 126, rfl⟩
abbrev main_call1_v1 : Ref sig .tc := ⟨.hbm, 127, rfl⟩
abbrev main_call1_v2 : Ref sig .tc := ⟨.hbm, 128, rfl⟩
abbrev main_v104 : Ref sig .tc := ⟨.hbm, 129, rfl⟩
abbrev main_v105 : Ref sig .tc := ⟨.hbm, 130, rfl⟩
abbrev main_cst_8 : Ref sig .tc := ⟨.hbm, 131, rfl⟩
abbrev main_call2_v0 : Ref sig .tc := ⟨.hbm, 132, rfl⟩
abbrev main_call2_v1 : Ref sig .tc := ⟨.hbm, 133, rfl⟩
abbrev main_call2_v2 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_cst_9 : Ref sig .tc := ⟨.hbm, 142, rfl⟩
abbrev main_call3_v0 : Ref sig .tc := ⟨.hbm, 143, rfl⟩
abbrev main_call3_v1 : Ref sig .tc := ⟨.hbm, 144, rfl⟩
abbrev main_call3_v2 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_c : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_v182 : Ref sig .tc := ⟨.hbm, 216, rfl⟩
abbrev main_v183 : Ref sig .tc := ⟨.hbm, 217, rfl⟩
abbrev main_v184 : Ref sig .tc := ⟨.hbm, 218, rfl⟩
abbrev main_v185 : Ref sig .tc := ⟨.hbm, 219, rfl⟩
abbrev main_v186 : Ref sig .tc := ⟨.hbm, 220, rfl⟩
abbrev main_v187 : Ref sig .tc := ⟨.hbm, 221, rfl⟩
abbrev main_v188 : Ref sig .tc := ⟨.hbm, 222, rfl⟩
abbrev main_v189 : Ref sig .tc := ⟨.hbm, 223, rfl⟩
abbrev main_v190 : Ref sig .tc := ⟨.hbm, 224, rfl⟩
abbrev main_v191 : Ref sig .tc := ⟨.hbm, 225, rfl⟩
abbrev main_v192 : Ref sig .tc := ⟨.hbm, 226, rfl⟩
abbrev main_v193 : Ref sig .tc := ⟨.hbm, 227, rfl⟩
abbrev main_v194 : Ref sig .tc := ⟨.hbm, 228, rfl⟩
abbrev main_v195 : Ref sig .tc := ⟨.hbm, 229, rfl⟩
abbrev main_v196 : Ref sig .tc := ⟨.hbm, 230, rfl⟩
abbrev main_v197 : Ref sig .tc := ⟨.hbm, 231, rfl⟩
abbrev main_v198 : Ref sig .tc := ⟨.hbm, 232, rfl⟩
abbrev main_v199 : Ref sig .tc := ⟨.hbm, 233, rfl⟩
abbrev main_v200 : Ref sig .tc := ⟨.hbm, 234, rfl⟩
abbrev main_v201 : Ref sig .tc := ⟨.hbm, 235, rfl⟩
abbrev main_v202 : Ref sig .tc := ⟨.hbm, 236, rfl⟩
abbrev main_v203 : Ref sig .tc := ⟨.hbm, 237, rfl⟩
abbrev main_v204 : Ref sig .tc := ⟨.hbm, 238, rfl⟩
abbrev main_v205 : Ref sig .tc := ⟨.hbm, 239, rfl⟩
abbrev main_v206 : Ref sig .tc := ⟨.hbm, 240, rfl⟩
abbrev main_v207 : Ref sig .tc := ⟨.hbm, 241, rfl⟩
abbrev main_v208 : Ref sig .tc := ⟨.hbm, 242, rfl⟩
abbrev main_v209 : Ref sig .tc := ⟨.hbm, 243, rfl⟩
abbrev main_v210 : Ref sig .tc := ⟨.hbm, 244, rfl⟩
abbrev main_v211 : Ref sig .tc := ⟨.hbm, 245, rfl⟩
abbrev main_v212 : Ref sig .tc := ⟨.hbm, 246, rfl⟩
abbrev main_v213 : Ref sig .tc := ⟨.hbm, 247, rfl⟩
abbrev main_v214 : Ref sig .tc := ⟨.hbm, 248, rfl⟩
abbrev main_v215 : Ref sig .tc := ⟨.hbm, 249, rfl⟩
abbrev main_v216 : Ref sig .tc := ⟨.hbm, 250, rfl⟩
abbrev main_v217 : Ref sig .tc := ⟨.hbm, 251, rfl⟩
abbrev main_v218 : Ref sig .tc := ⟨.hbm, 252, rfl⟩
abbrev main_v219 : Ref sig .tc := ⟨.hbm, 253, rfl⟩
abbrev main_v220 : Ref sig .tc := ⟨.hbm, 254, rfl⟩
abbrev main_v221 : Ref sig .tc := ⟨.hbm, 255, rfl⟩
abbrev main_v222 : Ref sig .tc := ⟨.hbm, 256, rfl⟩
abbrev main_v223 : Ref sig .tc := ⟨.hbm, 257, rfl⟩
abbrev main_v224 : Ref sig .tc := ⟨.hbm, 258, rfl⟩
abbrev main_v225 : Ref sig .tc := ⟨.hbm, 259, rfl⟩
abbrev main_v226 : Ref sig .tc := ⟨.hbm, 260, rfl⟩
abbrev main_v227 : Ref sig .tc := ⟨.hbm, 261, rfl⟩
abbrev main_v228 : Ref sig .tc := ⟨.hbm, 262, rfl⟩
abbrev main_v229 : Ref sig .tc := ⟨.hbm, 263, rfl⟩
abbrev main_v230 : Ref sig .tc := ⟨.hbm, 264, rfl⟩
abbrev main_v231 : Ref sig .tc := ⟨.hbm, 265, rfl⟩
abbrev main_v232 : Ref sig .tc := ⟨.hbm, 266, rfl⟩
abbrev main_v233 : Ref sig .tc := ⟨.hbm, 267, rfl⟩
abbrev main_v234 : Ref sig .tc := ⟨.hbm, 268, rfl⟩
abbrev main_v235 : Ref sig .tc := ⟨.hbm, 269, rfl⟩
abbrev main_v236 : Ref sig .tc := ⟨.hbm, 270, rfl⟩
abbrev main_v237 : Ref sig .tc := ⟨.hbm, 271, rfl⟩
abbrev main_v238 : Ref sig .tc := ⟨.hbm, 272, rfl⟩
abbrev main_v239 : Ref sig .tc := ⟨.hbm, 273, rfl⟩
abbrev main_v240 : Ref sig .tc := ⟨.hbm, 274, rfl⟩
abbrev main_v241 : Ref sig .tc := ⟨.hbm, 275, rfl⟩
abbrev main_v242 : Ref sig .tc := ⟨.hbm, 276, rfl⟩
abbrev main_v243 : Ref sig .tc := ⟨.hbm, 277, rfl⟩
abbrev main_v244 : Ref sig .tc := ⟨.hbm, 278, rfl⟩
abbrev main_v245 : Ref sig .tc := ⟨.hbm, 279, rfl⟩
abbrev main_v246 : Ref sig .tc := ⟨.hbm, 280, rfl⟩
abbrev main_v247 : Ref sig .tc := ⟨.hbm, 281, rfl⟩
abbrev main_v248 : Ref sig .tc := ⟨.hbm, 282, rfl⟩
abbrev main_v249 : Ref sig .tc := ⟨.hbm, 283, rfl⟩
abbrev main_v250 : Ref sig .tc := ⟨.hbm, 284, rfl⟩
abbrev main_v251 : Ref sig .tc := ⟨.hbm, 285, rfl⟩
abbrev main_v252 : Ref sig .tc := ⟨.hbm, 286, rfl⟩
abbrev main_v253 : Ref sig .tc := ⟨.hbm, 287, rfl⟩
abbrev main_v254 : Ref sig .tc := ⟨.hbm, 288, rfl⟩
abbrev main_v255 : Ref sig .tc := ⟨.hbm, 289, rfl⟩
abbrev main_v256 : Ref sig .tc := ⟨.hbm, 290, rfl⟩
abbrev main_v257 : Ref sig .tc := ⟨.hbm, 291, rfl⟩
abbrev main_v258 : Ref sig .tc := ⟨.hbm, 292, rfl⟩
abbrev main_v259 : Ref sig .tc := ⟨.hbm, 293, rfl⟩
abbrev main_v260 : Ref sig .tc := ⟨.hbm, 294, rfl⟩
abbrev main_v261 : Ref sig .tc := ⟨.hbm, 295, rfl⟩
abbrev main_v262 : Ref sig .tc := ⟨.hbm, 296, rfl⟩
abbrev main_v263 : Ref sig .tc := ⟨.hbm, 297, rfl⟩
abbrev main_v264 : Ref sig .tc := ⟨.hbm, 298, rfl⟩
abbrev main_v265 : Ref sig .tc := ⟨.hbm, 299, rfl⟩
abbrev main_v266 : Ref sig .tc := ⟨.hbm, 300, rfl⟩
abbrev main_v267 : Ref sig .tc := ⟨.hbm, 301, rfl⟩
abbrev main_v268 : Ref sig .tc := ⟨.hbm, 302, rfl⟩
abbrev main_v269 : Ref sig .tc := ⟨.hbm, 303, rfl⟩
abbrev main_v270 : Ref sig .tc := ⟨.hbm, 304, rfl⟩
abbrev main_v271 : Ref sig .tc := ⟨.hbm, 305, rfl⟩
abbrev main_v272 : Ref sig .tc := ⟨.hbm, 306, rfl⟩
abbrev main_v273 : Ref sig .tc := ⟨.hbm, 307, rfl⟩
abbrev main_v274 : Ref sig .tc := ⟨.hbm, 308, rfl⟩
abbrev main_v275 : Ref sig .tc := ⟨.hbm, 309, rfl⟩
abbrev main_v276 : Ref sig .tc := ⟨.hbm, 310, rfl⟩
abbrev main_v277 : Ref sig .tc := ⟨.hbm, 311, rfl⟩
abbrev main_v278 : Ref sig .tc := ⟨.hbm, 312, rfl⟩
abbrev main_v279 : Ref sig .tc := ⟨.hbm, 313, rfl⟩
abbrev main_v280 : Ref sig .tc := ⟨.hbm, 314, rfl⟩
abbrev main_v281 : Ref sig .tc := ⟨.hbm, 315, rfl⟩
abbrev main_v282 : Ref sig .tc := ⟨.hbm, 316, rfl⟩
abbrev main_v283 : Ref sig .tc := ⟨.hbm, 317, rfl⟩
abbrev main_v284 : Ref sig .tc := ⟨.hbm, 318, rfl⟩
abbrev main_v285 : Ref sig .tc := ⟨.hbm, 319, rfl⟩
abbrev main_v286 : Ref sig .tc := ⟨.hbm, 320, rfl⟩
abbrev main_v287 : Ref sig .tc := ⟨.hbm, 321, rfl⟩
abbrev main_v288 : Ref sig .tc := ⟨.hbm, 322, rfl⟩
abbrev main_v289 : Ref sig .tc := ⟨.hbm, 323, rfl⟩
abbrev main_v290 : Ref sig .tc := ⟨.hbm, 324, rfl⟩
abbrev main_v291 : Ref sig .tc := ⟨.hbm, 325, rfl⟩
abbrev main_v292 : Ref sig .tc := ⟨.hbm, 326, rfl⟩
abbrev main_v293 : Ref sig .tc := ⟨.hbm, 327, rfl⟩
abbrev main_v294 : Ref sig .tc := ⟨.hbm, 328, rfl⟩
abbrev main_v295 : Ref sig .tc := ⟨.hbm, 329, rfl⟩
abbrev main_v296 : Ref sig .tc := ⟨.hbm, 330, rfl⟩
abbrev main_v297 : Ref sig .tc := ⟨.hbm, 331, rfl⟩
abbrev main_v298 : Ref sig .tc := ⟨.hbm, 332, rfl⟩
abbrev main_v299 : Ref sig .tc := ⟨.hbm, 333, rfl⟩
abbrev main_v300 : Ref sig .tc := ⟨.hbm, 334, rfl⟩
abbrev main_v301 : Ref sig .tc := ⟨.hbm, 335, rfl⟩
abbrev main_v302 : Ref sig .tc := ⟨.hbm, 336, rfl⟩
abbrev main_v303 : Ref sig .tc := ⟨.hbm, 337, rfl⟩
abbrev main_v304 : Ref sig .tc := ⟨.hbm, 338, rfl⟩
abbrev main_v305 : Ref sig .tc := ⟨.hbm, 339, rfl⟩
abbrev main_v306 : Ref sig .tc := ⟨.hbm, 340, rfl⟩
abbrev main_v307 : Ref sig .tc := ⟨.hbm, 341, rfl⟩
abbrev main_v308 : Ref sig .tc := ⟨.hbm, 342, rfl⟩
abbrev main_v309 : Ref sig .tc := ⟨.hbm, 343, rfl⟩
abbrev main_v310 : Ref sig .tc := ⟨.hbm, 344, rfl⟩
abbrev main_v311 : Ref sig .tc := ⟨.hbm, 345, rfl⟩
abbrev main_v312 : Ref sig .tc := ⟨.hbm, 346, rfl⟩
abbrev main_v313 : Ref sig .tc := ⟨.hbm, 347, rfl⟩
abbrev main_v314 : Ref sig .tc := ⟨.hbm, 348, rfl⟩
abbrev main_v315 : Ref sig .tc := ⟨.hbm, 349, rfl⟩
abbrev main_v316 : Ref sig .tc := ⟨.hbm, 350, rfl⟩
abbrev main_v317 : Ref sig .tc := ⟨.hbm, 351, rfl⟩
abbrev main_v318 : Ref sig .tc := ⟨.hbm, 352, rfl⟩
abbrev main_v319 : Ref sig .tc := ⟨.hbm, 353, rfl⟩
abbrev main_v320 : Ref sig .tc := ⟨.hbm, 354, rfl⟩
abbrev main_v321 : Ref sig .tc := ⟨.hbm, 355, rfl⟩
abbrev main_v322 : Ref sig .tc := ⟨.hbm, 356, rfl⟩
abbrev main_v323 : Ref sig .tc := ⟨.hbm, 357, rfl⟩
abbrev main_v324 : Ref sig .tc := ⟨.hbm, 358, rfl⟩
abbrev main_v325 : Ref sig .tc := ⟨.hbm, 359, rfl⟩
abbrev main_v326 : Ref sig .tc := ⟨.hbm, 360, rfl⟩
abbrev main_v327 : Ref sig .tc := ⟨.hbm, 361, rfl⟩
abbrev main_v328 : Ref sig .tc := ⟨.hbm, 362, rfl⟩
abbrev main_v329 : Ref sig .tc := ⟨.hbm, 363, rfl⟩
abbrev main_v330 : Ref sig .tc := ⟨.hbm, 364, rfl⟩
abbrev main_v331 : Ref sig .tc := ⟨.hbm, 365, rfl⟩
abbrev main_v332 : Ref sig .tc := ⟨.hbm, 366, rfl⟩
abbrev main_v333 : Ref sig .tc := ⟨.hbm, 367, rfl⟩
abbrev main_v334 : Ref sig .tc := ⟨.hbm, 368, rfl⟩
abbrev main_v335 : Ref sig .tc := ⟨.hbm, 369, rfl⟩
abbrev main_v336 : Ref sig .tc := ⟨.hbm, 370, rfl⟩
abbrev main_v337 : Ref sig .tc := ⟨.hbm, 371, rfl⟩
abbrev main_v338 : Ref sig .tc := ⟨.hbm, 372, rfl⟩
abbrev main_v339 : Ref sig .tc := ⟨.hbm, 373, rfl⟩
abbrev main_v340 : Ref sig .tc := ⟨.hbm, 374, rfl⟩
abbrev main_v341 : Ref sig .tc := ⟨.hbm, 375, rfl⟩
abbrev main_v342 : Ref sig .tc := ⟨.hbm, 376, rfl⟩
abbrev main_v343 : Ref sig .tc := ⟨.hbm, 377, rfl⟩
abbrev main_v344 : Ref sig .tc := ⟨.hbm, 378, rfl⟩
abbrev main_v345 : Ref sig .tc := ⟨.hbm, 379, rfl⟩
abbrev main_v346 : Ref sig .tc := ⟨.hbm, 380, rfl⟩
abbrev main_v347 : Ref sig .tc := ⟨.hbm, 381, rfl⟩
abbrev main_v348 : Ref sig .tc := ⟨.hbm, 382, rfl⟩
abbrev main_v349 : Ref sig .tc := ⟨.hbm, 383, rfl⟩
abbrev main_v350 : Ref sig .tc := ⟨.hbm, 384, rfl⟩
abbrev main_v351 : Ref sig .tc := ⟨.hbm, 385, rfl⟩
abbrev main_v352 : Ref sig .tc := ⟨.hbm, 386, rfl⟩
abbrev main_v353 : Ref sig .tc := ⟨.hbm, 387, rfl⟩
abbrev main_v354 : Ref sig .tc := ⟨.hbm, 388, rfl⟩
abbrev main_v355 : Ref sig .tc := ⟨.hbm, 389, rfl⟩
abbrev main_v356 : Ref sig .tc := ⟨.hbm, 390, rfl⟩
abbrev main_v357 : Ref sig .tc := ⟨.hbm, 391, rfl⟩
abbrev main_v358 : Ref sig .tc := ⟨.hbm, 392, rfl⟩
abbrev main_v359 : Ref sig .tc := ⟨.hbm, 393, rfl⟩
abbrev main_v360 : Ref sig .tc := ⟨.hbm, 394, rfl⟩
abbrev main_v361 : Ref sig .tc := ⟨.hbm, 395, rfl⟩
abbrev main_v362 : Ref sig .tc := ⟨.hbm, 396, rfl⟩
abbrev main_v363 : Ref sig .tc := ⟨.hbm, 397, rfl⟩
abbrev main_v364 : Ref sig .tc := ⟨.hbm, 398, rfl⟩
abbrev main_v365 : Ref sig .tc := ⟨.hbm, 399, rfl⟩
abbrev main_v366 : Ref sig .tc := ⟨.hbm, 400, rfl⟩
abbrev main_v367 : Ref sig .tc := ⟨.hbm, 401, rfl⟩
abbrev main_v368 : Ref sig .tc := ⟨.hbm, 402, rfl⟩
abbrev main_v369 : Ref sig .tc := ⟨.hbm, 403, rfl⟩
abbrev main_v370 : Ref sig .tc := ⟨.hbm, 404, rfl⟩
abbrev main_v371 : Ref sig .tc := ⟨.hbm, 405, rfl⟩
abbrev main_v372 : Ref sig .tc := ⟨.hbm, 406, rfl⟩
abbrev main_v373 : Ref sig .tc := ⟨.hbm, 407, rfl⟩
abbrev main_v374 : Ref sig .tc := ⟨.hbm, 408, rfl⟩
abbrev main_v375 : Ref sig .tc := ⟨.hbm, 409, rfl⟩
abbrev main_v376 : Ref sig .tc := ⟨.hbm, 410, rfl⟩
abbrev main_v377 : Ref sig .tc := ⟨.hbm, 411, rfl⟩
abbrev main_v378 : Ref sig .tc := ⟨.hbm, 412, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S240x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S240x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S240x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S240x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S240x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S240x8192 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S240x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S240x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Head.lean ====
/- One value head of the chunked kernel as functions of what the body loads: the quantised key and query blocks, the decays,
   the packed column elimination of the two heads that share a key head, the corrected values, the output and the new state.
   The kernel writes these operations out once for each of its twenty heads; here the head is a parameter. -/
module

public import proofs.«01_k».proof.Proof.Gen.KernelIdeal.Skeleton

@[expose] public section

set_option maxRecDepth 16384

noncomputable section

namespace Cert.KernelIdeal.Head

open Cert.KernelIdeal Cert.KernelIdeal.Gen Idealize.ShloMosaic Idealize.SL.Sem

variable {F : FTy → Type} [FloatOps F]

/-- A column of a value head lies in the array. -/
theorem slices_col (h : Fin 20) : S64x20.Slices ![0, h.val] S64x1 := by revert h; decide
/-- The last entry of a value head's column lies in the array. -/
theorem slices_last (h : Fin 20) : S64x20.Slices ![63, h.val] S1x1 := by revert h; decide
/-- A row of a value head lies in the array. -/
theorem slices_row (h : Fin 20) : S20x64.Slices ![h.val, 0] S1x64 := by revert h; decide
/-- A row of the packed inverses lies in the array. -/
theorem slices_step {j : ℕ} (h : j + 1 ≤ 31) : S32x128.Slices ![j, 0] S1x128 :=
  (by decide : ∀ j : Fin 31, S32x128.Slices ![j.val, 0] S1x128) ⟨j, h⟩
/-- The first half block of a value head lies in the array. -/
theorem slices_left (r : Fin 2) : S32x128.Slices ![0, 64 * r.val] S32x32 := by revert r; decide
/-- The second half block of a value head lies in the array. -/
theorem slices_right (r : Fin 2) : S32x128.Slices ![0, 64 * r.val + 32] S32x32 := by revert r; decide

/-- The value head `2 kh + r`. -/
abbrev hd (kh : Fin 10) (r : Fin 2) : Fin 20 := ⟨2 * kh.val + r.val, by omega⟩

/-- A block of keys or queries as float32. -/
abbrev wide (x : Vec F S1x1x64x128 .bf16) : FVec F S64x128 .f32 := k0_pay18 x
/-- The exponent of the block's scale. -/
abbrev expo (x : Vec F S1x1x64x128 .bf16) : IVec S1x1 32 := k0_pay19 x
/-- The block's scale. -/
abbrev scale (x : Vec F S1x1x64x128 .bf16) : FVec F S1x1 .f32 := k0_pay21 (k0_pay20 x)
/-- The block's codes. -/
abbrev codes (x : Vec F S1x1x64x128 .bf16) : FVec F S64x128 .fp8e4m3 := k0_pay22 (k0_pay18 x) (k0_pay19 x)
/-- The inverse norm of each row of the block. -/
abbrev rnorm (x : Vec F S1x1x64x128 .bf16) : FVec F S64x1 .f32 := k0_pay23 (k0_pay18 x)
/-- Products of key codes. -/
abbrev kk (k : Vec F S1x1x64x128 .bf16) : FVec F S64x64 .f32 := k0_pay35 (codes k)
/-- Products of query codes with key codes. -/
abbrev qk (q k : Vec F S1x1x64x128 .bf16) : FVec F S64x64 .f32 := k0_pay36 (codes k) (codes q)
/-- Scale times inverse norm of the keys. -/
abbrev rks (k : Vec F S1x1x64x128 .bf16) : FVec F S64x1 .f32 := k0_pay37 (scale k) (rnorm k)
/-- Scale times inverse norm of the queries times `128 ^ (-1/2)`. -/
abbrev rqs (q : Vec F S1x1x64x128 .bf16) : FVec F S64x1 .f32 := k0_pay38 (scale q) (rnorm q)

/-- Row index at least column index. -/
abbrev incl : IVec S64x64 1 :=
  k0_pay14 (iota .tc S64x64 32 [0] iota_S64x64_d0_w32) (iota .tc S64x64 32 [1] iota_S64x64_d1_w32)
/-- Row index greater than column index. -/
abbrev strict : IVec S64x64 1 :=
  k0_pay15 (iota .tc S64x64 32 [0] iota_S64x64_d0_w32) (iota .tc S64x64 32 [1] iota_S64x64_d1_w32)

/-- The decay from one position of the chunk to a later one. -/
def decay (g : Vec F S64x20 .f32) (h : Fin 20) : FVec F S64x64 .f32 :=
  select incl (exp (select incl
      (subf (broadcastTo S64x64 (extractStridedSlice S64x1 ![0, h.val] (k0_pay8 g) (slices_col h)) broadcasts_S64x1_S64x64)
        (broadcastTo S64x64 (extractStridedSlice S1x64 ![h.val, 0] (k0_pay9 g) (slices_row h)) broadcasts_S1x64_S64x64))
      (broadcast S64x64 (Scalar.ofBits .f32 0x00000000#32)))) (broadcast S64x64 (Scalar.ofBits .f32 0x00000000#32))

/-- The strictly lower triangular matrix of the chunk. -/
def tri (g b : Vec F S64x20 .f32) (k : Vec F S1x1x64x128 .bf16) (h : Fin 20) : FVec F S64x64 .f32 :=
  select strict
    (mulf (broadcastTo S64x64 (mulf (extractStridedSlice S64x1 ![0, h.val] b (slices_col h)) (mulf (rks k) (rks k)))
      broadcasts_S64x1_S64x64) (mulf (kk k) (decay g h)))
    (broadcast S64x64 (Scalar.ofBits .f32 0x00000000#32))

/-- The four diagonal blocks of the two matrices, side by side. -/
def packed (A0 A1 : FVec F S64x64 .f32) : FVec F S32x128 .f32 :=
  k0_pay51 (concatenate S64x128 1 [⟨S64x64, A0⟩, ⟨S64x64, A1⟩] concatenates_S64x64_S64x64_S64x128_d1)
    (k0_pay48 (iota .tc S1x128 32 [1] iota_S1x128_d1_w32)) (k0_pay49 (iota .tc S1x128 32 [1] iota_S1x128_d1_w32))
    (k0_pay50 (iota .tc S1x128 32 [1] iota_S1x128_d1_w32))

/-- Four identities side by side. -/
def ident : FVec F S32x128 .f32 :=
  have v266 : IVec S32x128 32 := iota .tc S32x128 32 [0] iota_S32x128_d0_w32
  have v267 : IVec S32x128 32 := iota .tc S32x128 32 [1] iota_S32x128_d1_w32
  let v268 : BitVec 1 := Scalar.cmpi .eq 32#32 0#32
  let v269 : BitVec 32 := Scalar.select v268 1#32 32#32
  have v271 : IVec S32x128 32 := remsi v267 (broadcast S32x128 v269)
  have v273 : IVec S32x128 1 := cmpi .ne v271 (broadcast S32x128 0#32)
  have v275 : IVec S32x128 1 := cmpi .slt v271 (broadcast S32x128 0#32)
  let v276 : BitVec 1 := Scalar.cmpi .slt v269 0#32
  have v278 : IVec S32x128 1 := broadcastTo S32x128 (broadcast S32x128 v276) broadcasts_S32x128_S32x128
  have v280 : IVec S32x128 1 := andi (xori v275 v278) v273
  have v282 : IVec S32x128 32 := addi v271 (broadcast S32x128 v269)
  have v283 : IVec S32x128 32 := select v280 v282 v271
  have v284 : IVec S32x128 1 := cmpi .eq v266 v283
  select v284 (broadcast S32x128 (Scalar.ofBits .f32 0x3F800000#32)) (broadcast S32x128 (Scalar.ofBits .f32 0x00000000#32))

/-- The lane at which column `j` of each lane's own block stands. -/
def lane (j : ℕ) : IVec S32x128 32 :=
  broadcastTo S32x128 (shapeCast S1x128 (addi (k0_pay13 k0_pay10 k0_pay11 k0_pay12) (broadcast S1x128 (BitVec.ofNat 32 j)))
    shapeCasts_S1x128_S1x128) broadcasts_S1x128_S32x128

/-- One column elimination in all four blocks. -/
def step (C T : FVec F S32x128 .f32) (j : ℕ) (hj : j + 1 ≤ 31) : FVec F S32x128 .f32 :=
  subf T (mulf
    (dynamicGather 1 C (shapeCast S32x128 (shapeCast S32x128x1
      (select (cmpi .slt (lane j) (broadcast S32x128 0#32)) (addi (lane j) (broadcast S32x128 128#32)) (lane j))
      shapeCasts_S32x128_S32x128x1) shapeCasts_S32x128x1_S32x128))
    (broadcastTo S32x128 (extractStridedSlice S1x128 ![j, 0] T (slices_step hj)) broadcasts_S1x128_S32x128))

/-- The first `n` column eliminations. -/
def steps (C : FVec F S32x128 .f32) (n : ℕ) : n ≤ 31 → FVec F S32x128 .f32 :=
  Nat.rec (motive := fun n => n ≤ 31 → FVec F S32x128 .f32) (fun _ => ident)
    (fun j ih hj => step C (ih (Nat.le_of_succ_le hj)) j hj) n

/-- The whole inverse from the inverses of its diagonal blocks. -/
def whole (A : FVec F S64x64 .f32) (T : FVec F S32x128 .f32) (r : Fin 2) : FVec F S64x64 .f32 :=
  have T1 : FVec F S32x32 .f32 := extractStridedSlice S32x32 ![0, 64 * r.val] T (slices_left r)
  have T2 : FVec F S32x32 .f32 := extractStridedSlice S32x32 ![0, 64 * r.val + 32] T (slices_right r)
  have A21 : FVec F S32x32 .f32 := extractStridedSlice S32x32 ![32, 0] A slices_S64x64_o32_0_S32x32
  have T21 : FVec F S32x32 .f32 := subf (broadcast S32x32 (Scalar.ofBits .f32 0x00000000#32))
    (matmul dot_S32x32_S32x32_S32x32_1_0_0_1_n_n (some .fp32) T2
      (matmul dot_S32x32_S32x32_S32x32_1_0_0_1_n_n (some .fp32) A21 T1 (constant S32x32 .f32 0x00000000#32))
      (constant S32x32 .f32 0x00000000#32))
  concatenate S64x64 0
    [⟨S32x64, concatenate S32x64 1 [⟨S32x32, T1⟩, ⟨S32x32, broadcast S32x32 (Scalar.ofBits .f32 0x00000000#32)⟩]
      concatenates_S32x32_S32x32_S32x64_d1⟩,
     ⟨S32x64, concatenate S32x64 1 [⟨S32x32, T21⟩, ⟨S32x32, T2⟩] concatenates_S32x32_S32x32_S32x64_d1⟩]
    concatenates_S32x64_S32x64_S64x64_d0

/-- The inverse the kernel multiplies by. -/
def inverse (g b : Vec F S64x20 .f32) (k : Vec F S1x1x64x128 .bf16) (kh : Fin 10) (r : Fin 2) : FVec F S64x64 .f32 :=
  whole (tri g b k (hd kh r)) (steps (packed (tri g b k (hd kh 0)) (tri g b k (hd kh 1))) 31 le_rfl) r

/-- The exponential of the running sum of the gates. -/
def gate (g : Vec F S64x20 .f32) (h : Fin 20) : FVec F S64x1 .f32 :=
  exp (extractStridedSlice S64x1 ![0, h.val] (k0_pay8 g) (slices_col h))

/-- The corrected values of the chunk, scaled by the inverse norms of the keys. -/
def corrected (T : FVec F S64x64 .f32) (g b : Vec F S64x20 .f32) (k : Vec F S1x1x64x128 .bf16) (v : Vec F S1x1x64x256 .bf16)
    (s : Vec F S1x1x128x256 .f32) (h : Fin 20) : FVec F S64x256 .f32 :=
  have bh : FVec F S64x1 .f32 := extractStridedSlice S64x1 ![0, h.val] b (slices_col h)
  matmul dot_S64x64_S64x256_S64x256_1_0_0_1_n_n (some .fp32) T
    (mulf (broadcastTo S64x256 (rnorm k) broadcasts_S64x1_S64x256)
      (subf (mulf (broadcastTo S64x256 bh broadcasts_S64x1_S64x256)
          (extf .f32 (shapeCast S64x256 v shapeCasts_S1x1x64x256_S64x256) bitsLt_bf16_f32))
        (mulf (broadcastTo S64x256 (mulf (mulf bh (gate g h)) (rks k)) broadcasts_S64x1_S64x256)
          (matmul dot_S64x128_S128x256_S64x256_1_0_0_1_n_n (some .fp32) (extf .f32 (codes k) bitsLt_fp8e4m3_f32)
            (shapeCast S128x256 s shapeCasts_S1x1x128x256_S128x256) (constant S64x256 .f32 0x00000000#32)))))
    (constant S64x256 .f32 0x00000000#32)

/-- The chunk's outputs from its corrected values. -/
def output (y : FVec F S64x256 .f32) (g : Vec F S64x20 .f32) (q k : Vec F S1x1x64x128 .bf16) (s : Vec F S1x1x128x256 .f32)
    (h : Fin 20) : FVec F S1x1x64x256 .bf16 :=
  shapeCast S1x1x64x256 (truncf .bf16 (addf
    (mulf (broadcastTo S64x256 (mulf (rqs q) (gate g h)) broadcasts_S64x1_S64x256)
      (matmul dot_S64x128_S128x256_S64x256_1_0_0_1_n_n (some .fp32) (extf .f32 (codes q) bitsLt_fp8e4m3_f32)
        (shapeCast S128x256 s shapeCasts_S1x1x128x256_S128x256) (constant S64x256 .f32 0x00000000#32)))
    (matmul dot_S64x64_S64x256_S64x256_1_0_0_1_n_n (some .fp32)
      (mulf (mulf (broadcastTo S64x64 (mulf (rqs q) (broadcastTo S64x1 (scale k) broadcasts_S1x1_S64x1)) broadcasts_S64x1_S64x64)
        (qk q k)) (decay g h)) y (constant S64x256 .f32 0x00000000#32))) bitsLt_bf16_f32) shapeCasts_S64x256_S1x1x64x256

/-- The state after the chunk from its corrected values. -/
def state (y : FVec F S64x256 .f32) (g : Vec F S64x20 .f32) (k : Vec F S1x1x64x128 .bf16) (s : Vec F S1x1x128x256 .f32)
    (h : Fin 20) : FVec F S1x1x128x256 .f32 :=
  have last : FVec F S1x1 .f32 := extractStridedSlice S1x1 ![63, h.val] (k0_pay8 g) (slices_last h)
  shapeCast S1x1x128x256 (addf
    (mulf (broadcastTo S128x256 (exp last) broadcasts_S1x1_S128x256) (shapeCast S128x256 s shapeCasts_S1x1x128x256_S128x256))
    (matmul dot_S64x128_S64x256_S128x256_0_0_1_1_n_n (some .fp32) (extf .f32 (codes k) bitsLt_fp8e4m3_f32)
      (mulf (broadcastTo S64x256 (mulf (exp (subf (broadcastTo S64x1 last broadcasts_S1x1_S64x1)
        (extractStridedSlice S64x1 ![0, h.val] (k0_pay8 g) (slices_col h))))
        (broadcastTo S64x1 (scale k) broadcasts_S1x1_S64x1)) broadcasts_S64x1_S64x256) y)
      (constant S128x256 .f32 0x00000000#32))) shapeCasts_S128x256_S1x1x128x256

/-- What the body stores in the output for value head `2 kh + r`. -/
def outputHead (g b : Vec F S64x20 .f32) (q k : Vec F S1x1x64x128 .bf16) (v : Vec F S1x1x64x256 .bf16)
    (s : Vec F S1x1x128x256 .f32) (kh : Fin 10) (r : Fin 2) : FVec F S1x1x64x256 .bf16 :=
  output (corrected (inverse g b k kh r) g b k v s (hd kh r)) g q k s (hd kh r)

/-- What the body stores in the state for value head `2 kh + r`. -/
def stateHead (g b : Vec F S64x20 .f32) (k : Vec F S1x1x64x128 .bf16) (v : Vec F S1x1x64x256 .bf16)
    (s : Vec F S1x1x128x256 .f32) (kh : Fin 10) (r : Fin 2) : FVec F S1x1x128x256 .f32 :=
  state (corrected (inverse g b k kh r) g b k v s (hd kh r)) g k s (hd kh r)

end Cert.KernelIdeal.Head

end
-- ==== Proof.Pieces.lean ====
/- What the kernel's body leaves in each output block and in its two scratch arrays at one grid point, as functions of the
   blocks it loads: in the first chunk of a batch entry (case A) and in a later one (case B). -/
module

public import proofs.«01_k».proof.Proof.Gen.KernelIdeal.Frame
public import proofs.«01_k».proof.Proof.Head
public import Idealize.ShloMosaic.Lib.Pipeline.ValueKit
public import Idealize.ShloMosaic.Lib.WritesUnit
public import Idealize.ShloMosaic.Lib.WholeRead

@[expose] public section

set_option maxRecDepth 65536

noncomputable section

namespace Cert.KernelIdeal.Head

open Cert.KernelIdeal Cert.KernelIdeal.Gen Idealize.ShloMosaic Idealize.ShloMosaic.TcCoe Idealize.SL.Sem

variable {F : FTy → Type} [FloatOps F]

/-- One value head lies in a block of states. -/
theorem inb_state (h : Fin 20) (a : Fin 4) : (![0, h.val, 0, 0] : Fin 4 → ℕ) a + S1x1x128x256.size a ≤ S1x20x128x256.size a := by
  revert h a; decide
/-- One value head lies in a block of values. -/
theorem inb_val (h : Fin 20) (a : Fin 4) : (![0, h.val, 0, 0] : Fin 4 → ℕ) a + S1x1x64x256.size a ≤ S1x20x64x256.size a := by
  revert h a; decide
/-- One key head lies in a block of keys. -/
theorem inb_key (h : Fin 10) (a : Fin 4) : (![0, h.val, 0, 0] : Fin 4 → ℕ) a + S1x1x64x128.size a ≤ S1x10x64x128.size a := by
  revert h a; decide

/-- The key head of a value head. -/
abbrev keyOf (h : Fin 20) : Fin 10 := ⟨h.val / 2, by omega⟩
/-- Which of its key head's two value heads a value head is. -/
abbrev sideOf (h : Fin 20) : Fin 2 := ⟨h.val % 2, by omega⟩

/-- One value head of a block of states. -/
abbrev rState (h : Fin 20) : Rect S1x20x128x256 := Rect.unit (s := S1x20x128x256) ![0, h.val, 0, 0] S1x1x128x256.size (inb_state h)
/-- One value head of a block of values. -/
abbrev rVal (h : Fin 20) : Rect S1x20x64x256 := Rect.unit (s := S1x20x64x256) ![0, h.val, 0, 0] S1x1x64x256.size (inb_val h)
/-- One key head of a block of keys. -/
abbrev rKey (h : Fin 10) : Rect S1x10x64x128 := Rect.unit (s := S1x10x64x128) ![0, h.val, 0, 0] S1x1x64x128.size (inb_key h)
/-- The chunk's rows of a scratch array. -/
abbrev rChunk (i : grid0.Coords) : Rect S512x20 := Rect.unit (s := S512x20) (k0_off1 i) S64x20.size (k0_off1_inb i)

/-- Stores of the twenty states one after the other, each computed from what the block holds at its head by then. -/
def chain (m : Memref sig .tc .vmem S1x20x128x256 .f32) (base : List (View.Piece (Elt F) S1x20x128x256 .f32))
    (P : Fin 20 → Vec F S1x1x128x256 .f32 → FVec F S1x1x128x256 .f32) (j : ℕ) :
    j ≤ 20 → List (View.Piece (Elt F) S1x20x128x256 .f32) :=
  Nat.rec (motive := fun j => j ≤ 20 → List (View.Piece (Elt F) S1x20x128x256 .f32)) (fun _ => base)
    (fun j ih hj => ⟨rState ⟨j, hj⟩, P ⟨j, hj⟩ (m.view.readAt (Elt F) (rState ⟨j, hj⟩).toLoadRect
      (m.view.writes (Elt F) m.view.junk (ih (Nat.le_of_succ_le hj))))⟩ :: ih (Nat.le_of_succ_le hj)) j

/-- The scales of the first `j` key heads in a row, zeros after them. -/
def scaleRow (x : Fin 10 → Vec F S1x1x64x128 .bf16) (j : ℕ) : j ≤ 10 → FVec F S1x10 .f32 :=
  Nat.rec (motive := fun j => j ≤ 10 → FVec F S1x10 .f32) (fun _ => broadcast S1x10 (Scalar.ofBits .f32 0x00000000#32))
    (fun j ih hj => select (cmpi .eq (iota .tc S1x10 32 [1] iota_S1x10_d1_w32) (broadcast S1x10 (BitVec.ofNat 32 j)))
      (broadcastTo S1x10 (shapeCast S1x1 (scale (x ⟨j, hj⟩)) shapeCasts_S1x1_S1x1) broadcasts_S1x1_S1x10)
      (ih (Nat.le_of_succ_le hj))) j

section B

variable (c : Dev nD) (i : grid0.Coords) (arg2 : Memref sig .tc .vmem S1x10x64x128 .bf16) (harg2 : arg2.IsWhole) (arg3 : Memref
  sig .tc .vmem S1x10x64x128 .bf16) (harg3 : arg3.IsWhole) (arg4 : Memref sig .tc .vmem S1x20x64x256 .bf16) (harg4 :
  arg4.IsWhole) (arg5 : Memref sig .tc .vmem S1x20x512 .f32) (harg5 : arg5.IsWhole) (arg6 : Memref sig .tc .vmem S1x20x512
  .f32) (harg6 : arg6.IsWhole) (arg7 : Memref sig .tc .vmem S1x20x128x256 .f32) (harg7 : arg7.IsWhole) (arg8 : Memref sig
  .tc .vmem S1x20x64x256 .bf16) (harg8 : arg8.IsWhole) (arg9 : Memref sig .tc .vmem S1x20x128x256 .f32) (harg9 :
  arg9.IsWhole) (arg10 : Memref sig .tc .vmem S1x10x64x128 .fp8e4m3) (harg10 : arg10.IsWhole) (arg11 : Memref sig .tc
  .vmem S1x8x10 .f32) (harg11 : arg11.IsWhole) (arg12 : Memref sig .tc .vmem S1x10x64x128 .fp8e4m3) (harg12 :
  arg12.IsWhole) (arg13 : Memref sig .tc .vmem S1x8x10 .f32) (harg13 : arg13.IsWhole) (arg14 : Memref sig .tc .vmem
  S512x20 .f32) (harg14 : arg14.IsWhole) (arg15 : Memref sig .tc .vmem S512x20 .f32) (harg15 : arg15.IsWhole)
  (hc0 : ¬cond0_0 i)
  (x0 : Vec F S1x10x64x128 .bf16) (x1 : Vec F S1x10x64x128 .bf16) (x2 : Vec F S1x20x64x256 .bf16) (x3 : Vec F S1x20x512
  .f32) (x4 : Vec F S1x20x512 .f32) (x5 : Vec F S1x20x128x256 .f32) (xo7 : Vec F S1x20x128x256 .f32) (xo9 : Vec F S1x8x10
  .f32) (xo11 : Vec F S1x8x10 .f32) (xs0 : Vec F S512x20 .f32) (xs1 : Vec F S512x20 .f32)

set_option maxHeartbeats 400000 in
/-- Case B, the state: one store for each value head. -/
theorem state_B : (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xo7 xo9 xo11 xs0 xs1).2.1
    = View.tilePieces (s := S1x20x128x256) S1x1x128x256.size (fun h : Fin 20 => ![0, h.val, 0, 0]) inb_state (fun h => stateHead
        (arg14.view.readAt (Elt F) (rChunk i).toLoadRect (harg14.unread xs0))
        (arg15.view.readAt (Elt F) (rChunk i).toLoadRect (harg15.unread xs1))
        (arg3.view.readAt (Elt F) (rKey (keyOf h)).toLoadRect (harg3.unread x1))
        (arg4.view.readAt (Elt F) (rVal h).toLoadRect (harg4.unread x2))
        (arg9.view.readAt (Elt F) (rState h).toLoadRect (harg9.unread xo7)) (keyOf h) (sideOf h)) 20 le_rfl := by
  rfl

set_option maxHeartbeats 400000 in
/-- Case B, the output: one store for each value head. -/
theorem output_B : (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xo7 xo9 xo11 xs0 xs1).1
    = View.tilePieces (s := S1x20x64x256) S1x1x64x256.size (fun h : Fin 20 => ![0, h.val, 0, 0]) inb_val (fun h => outputHead
        (arg14.view.readAt (Elt F) (rChunk i).toLoadRect (harg14.unread xs0))
        (arg15.view.readAt (Elt F) (rChunk i).toLoadRect (harg15.unread xs1))
        (arg2.view.readAt (Elt F) (rKey (keyOf h)).toLoadRect (harg2.unread x0))
        (arg3.view.readAt (Elt F) (rKey (keyOf h)).toLoadRect (harg3.unread x1))
        (arg4.view.readAt (Elt F) (rVal h).toLoadRect (harg4.unread x2))
        (arg9.view.readAt (Elt F) (rState h).toLoadRect (harg9.unread xo7)) (keyOf h) (sideOf h)) 20 le_rfl := by
  rfl

set_option maxHeartbeats 400000 in
/-- Case B, the key codes: one store for each key head. -/
theorem kcodes_B : (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xo7 xo9 xo11 xs0 xs1).2.2.1
    = View.tilePieces (s := S1x10x64x128) S1x1x64x128.size (fun h : Fin 10 => ![0, h.val, 0, 0]) inb_key (fun h =>
        shapeCast S1x1x64x128 (codes (arg3.view.readAt (Elt F) (rKey h).toLoadRect (harg3.unread x1)))
          shapeCasts_S64x128_S1x1x64x128) 10 le_rfl := by
  rfl

set_option maxHeartbeats 400000 in
/-- Case B, the query codes: one store for each key head. -/
theorem qcodes_B : (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xo7 xo9 xo11 xs0 xs1).2.2.2.2.1
    = View.tilePieces (s := S1x10x64x128) S1x1x64x128.size (fun h : Fin 10 => ![0, h.val, 0, 0]) inb_key (fun h =>
        shapeCast S1x1x64x128 (codes (arg2.view.readAt (Elt F) (rKey h).toLoadRect (harg2.unread x0)))
          shapeCasts_S64x128_S1x1x64x128) 10 le_rfl := by
  rfl

set_option maxHeartbeats 400000 in
/-- Case B, the key scales: the chunk's row replaced in what the block held. -/
theorem kscales_B : (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xo7 xo9 xo11 xs0 xs1).2.2.2.1
    = [⟨Rect.unit (s := S1x8x10) ![0, 0, 0] S1x8x10.size inb_S1x8x10_S1x8x10_0_0_0,
        k0_pay2 (BitVec.ofNat 32 (i 1).val) (iota .tc S8x10 32 [0] iota_S8x10_d0_w32)
          (scaleRow (fun h => arg3.view.readAt (Elt F) (rKey h).toLoadRect (harg3.unread x1)) 10 le_rfl)
          (arg11.view.readAt (Elt F) (Rect.unit (s := S1x8x10) ![0, 0, 0] S1x8x10.size inb_S1x8x10_S1x8x10_0_0_0).toLoadRect (harg11.unread xo9))⟩] := by
  rfl

set_option maxHeartbeats 400000 in
/-- Case B, the query scales: the chunk's row replaced in what the block held. -/
theorem qscales_B : (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xo7 xo9 xo11 xs0 xs1).2.2.2.2.2.1
    = [⟨Rect.unit (s := S1x8x10) ![0, 0, 0] S1x8x10.size inb_S1x8x10_S1x8x10_0_0_0,
        k0_pay2 (BitVec.ofNat 32 (i 1).val) (iota .tc S8x10 32 [0] iota_S8x10_d0_w32)
          (scaleRow (fun h => arg2.view.readAt (Elt F) (rKey h).toLoadRect (harg2.unread x0)) 10 le_rfl)
          (arg13.view.readAt (Elt F) (Rect.unit (s := S1x8x10) ![0, 0, 0] S1x8x10.size inb_S1x8x10_S1x8x10_0_0_0).toLoadRect (harg13.unread xo11))⟩] := by
  rfl

end B

section A

variable (c : Dev nD) (i : grid0.Coords) (arg2 : Memref sig .tc .vmem S1x10x64x128 .bf16) (harg2 : arg2.IsWhole) (arg3 : Memref
  sig .tc .vmem S1x10x64x128 .bf16) (harg3 : arg3.IsWhole) (arg4 : Memref sig .tc .vmem S1x20x64x256 .bf16) (harg4 :
  arg4.IsWhole) (arg5 : Memref sig .tc .vmem S1x20x512 .f32) (harg5 : arg5.IsWhole) (arg6 : Memref sig .tc .vmem S1x20x512
  .f32) (harg6 : arg6.IsWhole) (arg7 : Memref sig .tc .vmem S1x20x128x256 .f32) (harg7 : arg7.IsWhole) (arg8 : Memref sig
  .tc .vmem S1x20x64x256 .bf16) (harg8 : arg8.IsWhole) (arg9 : Memref sig .tc .vmem S1x20x128x256 .f32) (harg9 :
  arg9.IsWhole) (arg10 : Memref sig .tc .vmem S1x10x64x128 .fp8e4m3) (harg10 : arg10.IsWhole) (arg11 : Memref sig .tc
  .vmem S1x8x10 .f32) (harg11 : arg11.IsWhole) (arg12 : Memref sig .tc .vmem S1x10x64x128 .fp8e4m3) (harg12 :
  arg12.IsWhole) (arg13 : Memref sig .tc .vmem S1x8x10 .f32) (harg13 : arg13.IsWhole) (arg14 : Memref sig .tc .vmem
  S512x20 .f32) (harg14 : arg14.IsWhole) (arg15 : Memref sig .tc .vmem S512x20 .f32) (harg15 : arg15.IsWhole)
  (hc0 : cond0_0 i)
  (x0 : Vec F S1x10x64x128 .bf16) (x1 : Vec F S1x10x64x128 .bf16) (x2 : Vec F S1x20x64x256 .bf16) (x3 : Vec F S1x20x512
  .f32) (x4 : Vec F S1x20x512 .f32) (x5 : Vec F S1x20x128x256 .f32)

/-- The transposed gates, as case A stores them. -/
abbrev gStore (arg5 : Memref sig .tc .vmem S1x20x512 .f32) (harg5 : arg5.IsWhole) (x3 : Vec F S1x20x512 .f32) : List (View.Piece (Elt F) S512x20 .f32) :=
  [⟨Rect.unit (s := S512x20) ![0, 0] S512x20.size inb_S512x20_S512x20_0_0, k0_pay6 (arg5.view.readAt (Elt F) (Rect.unit (s := S1x20x512) ![0, 0, 0] S1x20x512.size inb_S1x20x512_S1x20x512_0_0_0).toLoadRect (harg5.unread x3))⟩]

/-- The initial states, as case A stores them. -/
abbrev sStore (arg7 : Memref sig .tc .vmem S1x20x128x256 .f32) (harg7 : arg7.IsWhole) (x5 : Vec F S1x20x128x256 .f32) : List (View.Piece (Elt F) S1x20x128x256 .f32) :=
  [⟨Rect.unit (s := S1x20x128x256) ![0, 0, 0, 0] S1x20x128x256.size inb_S1x20x128x256_S1x20x128x256_0_0_0_0, (arg7.view.readAt (Elt F) (Rect.unit (s := S1x20x128x256) ![0, 0, 0, 0] S1x20x128x256.size inb_S1x20x128x256_S1x20x128x256_0_0_0_0).toLoadRect (harg7.unread x5))⟩]

/-- A block of zeros, as case A stores it in the scales. -/
abbrev zStore : List (View.Piece (Elt F) S1x8x10 .f32) :=
  [⟨Rect.unit (s := S1x8x10) ![0, 0, 0] S1x8x10.size inb_S1x8x10_S1x8x10_0_0_0, k0_pay4⟩]

set_option maxHeartbeats 400000 in
/-- Case A, the transposed gates. -/
theorem gates_A : (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5).2.2.2.2.2.2.1 = gStore arg5 harg5 x3 := by
  rfl

set_option maxHeartbeats 400000 in
/-- Case A, the transposed betas. -/
theorem betas_A : (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5).2.2.2.2.2.2.2.1 = gStore arg6 harg6 x4 := by
  rfl

/-- Case A, the stores of the state. -/
abbrev chain_A := chain arg9 (sStore arg7 harg7 x5) (fun h s => stateHead
        (arg14.view.readAt (Elt F) (rChunk i).toLoadRect (arg14.view.writes (Elt F) arg14.view.junk (gStore arg5 harg5 x3)))
        (arg15.view.readAt (Elt F) (rChunk i).toLoadRect (arg15.view.writes (Elt F) arg15.view.junk (gStore arg6 harg6 x4)))
        (arg3.view.readAt (Elt F) (rKey (keyOf h)).toLoadRect (harg3.unread x1))
        (arg4.view.readAt (Elt F) (rVal h).toLoadRect (harg4.unread x2)) s (keyOf h) (sideOf h))

set_option maxHeartbeats 400000 in
/-- Case A, the state: the initial states, then one store for each value head. -/
theorem state_A : (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5).2.1
    = chain_A i arg3 harg3 arg4 harg4 arg5 harg5 arg6 harg6 arg7 harg7 arg9 arg14 arg15 x1 x2 x3 x4 x5 20 le_rfl := by
  sl_kernel_rfl

set_option maxHeartbeats 400000 in
/-- Case A, the output: one store for each value head. -/
theorem output_A : (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5).1
    = View.tilePieces (s := S1x20x64x256) S1x1x64x256.size (fun h : Fin 20 => ![0, h.val, 0, 0]) inb_val (fun h => outputHead
        (arg14.view.readAt (Elt F) (rChunk i).toLoadRect (arg14.view.writes (Elt F) arg14.view.junk (gStore arg5 harg5 x3)))
        (arg15.view.readAt (Elt F) (rChunk i).toLoadRect (arg15.view.writes (Elt F) arg15.view.junk (gStore arg6 harg6 x4)))
        (arg2.view.readAt (Elt F) (rKey (keyOf h)).toLoadRect (harg2.unread x0))
        (arg3.view.readAt (Elt F) (rKey (keyOf h)).toLoadRect (harg3.unread x1))
        (arg4.view.readAt (Elt F) (rVal h).toLoadRect (harg4.unread x2))
        (arg9.view.readAt (Elt F) (rState h).toLoadRect (arg9.view.writes (Elt F) arg9.view.junk
          ((kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5).2.1.drop (20 - h.val))))
        (keyOf h) (sideOf h)) 20 le_rfl := by
  rfl

set_option maxHeartbeats 400000 in
/-- Case A, the key codes: one store for each key head. -/
theorem kcodes_A : (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5).2.2.1
    = View.tilePieces (s := S1x10x64x128) S1x1x64x128.size (fun h : Fin 10 => ![0, h.val, 0, 0]) inb_key (fun h =>
        shapeCast S1x1x64x128 (codes (arg3.view.readAt (Elt F) (rKey h).toLoadRect (harg3.unread x1)))
          shapeCasts_S64x128_S1x1x64x128) 10 le_rfl := by
  rfl

set_option maxHeartbeats 400000 in
/-- Case A, the query codes: one store for each key head. -/
theorem qcodes_A : (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5).2.2.2.2.1
    = View.tilePieces (s := S1x10x64x128) S1x1x64x128.size (fun h : Fin 10 => ![0, h.val, 0, 0]) inb_key (fun h =>
        shapeCast S1x1x64x128 (codes (arg2.view.readAt (Elt F) (rKey h).toLoadRect (harg2.unread x0)))
          shapeCasts_S64x128_S1x1x64x128) 10 le_rfl := by
  rfl

set_option maxHeartbeats 400000 in
/-- Case A, the key scales: zeros, then the chunk's row. -/
theorem kscales_A : (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5).2.2.2.1
    = [⟨Rect.unit (s := S1x8x10) ![0, 0, 0] S1x8x10.size inb_S1x8x10_S1x8x10_0_0_0,
        k0_pay2 (BitVec.ofNat 32 (i 1).val) (iota .tc S8x10 32 [0] iota_S8x10_d0_w32)
          (scaleRow (fun h => arg3.view.readAt (Elt F) (rKey h).toLoadRect (harg3.unread x1)) 10 le_rfl)
          (arg11.view.readAt (Elt F) (Rect.unit (s := S1x8x10) ![0, 0, 0] S1x8x10.size inb_S1x8x10_S1x8x10_0_0_0).toLoadRect (arg11.view.writes (Elt F) arg11.view.junk zStore))⟩] ++ zStore := by
  rfl

set_option maxHeartbeats 400000 in
/-- Case A, the query scales: zeros, then the chunk's row. -/
theorem qscales_A : (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5).2.2.2.2.2.1
    = [⟨Rect.unit (s := S1x8x10) ![0, 0, 0] S1x8x10.size inb_S1x8x10_S1x8x10_0_0_0,
        k0_pay2 (BitVec.ofNat 32 (i 1).val) (iota .tc S8x10 32 [0] iota_S8x10_d0_w32)
          (scaleRow (fun h => arg2.view.readAt (Elt F) (rKey h).toLoadRect (harg2.unread x0)) 10 le_rfl)
          (arg13.view.readAt (Elt F) (Rect.unit (s := S1x8x10) ![0, 0, 0] S1x8x10.size inb_S1x8x10_S1x8x10_0_0_0).toLoadRect (arg13.view.writes (Elt F) arg13.view.junk zStore))⟩] ++ zStore := by
  rfl

end A

end Cert.KernelIdeal.Head

end
-- ==== Proof.Blocks.lean ====
/- The output blocks and scratch arrays after each grid point as functions of the input blocks at the point and of what the
   point before left. -/
module

public import proofs.«01_k».proof.Proof.Pieces
public import Idealize.ShloMosaic.Lib.Writes

@[expose] public section

set_option maxRecDepth 65536

noncomputable section

namespace Cert.KernelIdeal.Head

open Cert.KernelIdeal Cert.KernelIdeal.Gen Idealize.ShloMosaic Idealize.ShloMosaic.TcCoe Idealize.SL.Sem

variable {F : FTy → Type} [FloatOps F]

/-- The part of an array under a rectangle. -/
abbrev cut {s : Shape} {e : EltTy} (X : Vec F s e) (r : Rect s) : Vec F r.shape e := fun x => X (r.toLoadRect.idx x)

/-- Loading a rectangle of a whole array that holds `X` gives that part of `X`. -/
theorem readAt_unread {sp : Space} {s : Shape} {e : EltTy} (m : Memref sig .tc sp s e) (h : m.IsWhole) (X : Vec F s e) (r : Rect s) :
    m.view.readAt (Elt F) r.toLoadRect (h.unread X) = cut X r := funext fun _ => h.readAt_unread X _ _

/-- A four dimensional index by its coordinates. -/
theorem ix4_eta {n0 n1 n2 n3 : ℕ} (y : (⟨4, ![n0, n1, n2, n3]⟩ : Shape).Idx) : y = ix4 (y 0) (y 1) (y 2) (y 3) := by
  funext a; fin_cases a <;> rfl

/-- Reading through one store for each of the heads of a block. -/
theorem read_heads {sp : Space} {e : EltTy} {NT a b : ℕ} (v : View sig .tc sp (⟨4, ![1, NT, a, b]⟩ : Shape) e)
    (f : v.ty.Contents (Elt F))
    (inb : ∀ (h : Fin NT) (x : Fin 4), (![0, h.val, 0, 0] : Fin 4 → ℕ) x + (![1, 1, a, b] : Fin 4 → ℕ) x ≤ (![1, NT, a, b] : Fin 4 → ℕ) x)
    (P : Fin NT → Vec F (⟨4, ![1, 1, a, b]⟩ : Shape) e) (h : Fin NT) (x : Fin a) (z : Fin b) :
    v.read (Elt F) (v.writes (Elt F) f (View.tilePieces (s := ⟨4, ![1, NT, a, b]⟩) ![1, 1, a, b]
      (fun h : Fin NT => ![0, h.val, 0, 0]) inb P NT le_rfl)) (ix4 0 h x z) = P h (ix4 0 0 x z) := by
  refine View.read_tilePieces v f ![1, 1, a, b] (fun h : Fin NT => ![0, h.val, 0, 0]) inb P NT le_rfl (ix4 0 h x z) h h.isLt
    (ix4 0 0 x z) ?_ 1 ?_
  · intro k; fin_cases k <;> simp
  · intro i' hi
    have : i'.val ≠ h.val := fun e => hi (Fin.ext e)
    show h.val < i'.val ∨ i'.val + 1 ≤ h.val
    omega

/-- The stores of the states, each computed from its own head of the array first stored: no store touches another's head. -/
theorem chain_eq (m : Memref sig .tc .vmem S1x20x128x256 .f32) (base : List (View.Piece (Elt F) S1x20x128x256 .f32))
    (X : Vec F S1x20x128x256 .f32) (hX : ∀ y, m.view.read (Elt F) (m.view.writes (Elt F) m.view.junk base) y = X y)
    (P : Fin 20 → Vec F S1x1x128x256 .f32 → FVec F S1x1x128x256 .f32) (j : ℕ) (hj : j ≤ 20) :
    chain m base P j hj = View.tilePieces (s := S1x20x128x256) S1x1x128x256.size (fun h : Fin 20 => ![0, h.val, 0, 0])
      inb_state (fun h => P h (cut X (rState h))) j hj ++ base := by
  induction j with
  | zero => rfl
  | succ j ih =>
    have e : chain m base P (j + 1) hj = ⟨rState ⟨j, hj⟩, P ⟨j, hj⟩ (m.view.readAt (Elt F) (rState ⟨j, hj⟩).toLoadRect
      (m.view.writes (Elt F) m.view.junk (chain m base P j (Nat.le_of_succ_le hj))))⟩ :: chain m base P j (Nat.le_of_succ_le hj) := rfl
    rw [e, ih, View.tilePieces_succ, List.cons_append]
    congr 3
    funext x
    rw [View.readAt_apply, View.writes_append]
    refine (View.read_tilePieces_miss _ _ _ _ _ _ j _ _ 1 fun i' hi' => ?_).trans (hX _)
    have hx : (x 1).val = 0 := by
      have := (x 1).isLt
      have e1 : (rState ⟨j, hj⟩).toLoadRect.shape.size 1 = 1 := rfl
      omega
    right
    show i'.val + 1 ≤ j + 1 * (x 1).val
    omega

/-- Reading one head past the stores of the later heads. -/
theorem chain_drop (m : Memref sig .tc .vmem S1x20x128x256 .f32) (base : List (View.Piece (Elt F) S1x20x128x256 .f32))
    (P : Fin 20 → Vec F S1x1x128x256 .f32 → FVec F S1x1x128x256 .f32) (j n : ℕ) (hn : n ≤ 20) (h : j ≤ n) :
    (chain m base P n hn).drop (n - j) = chain m base P j (h.trans hn) := by
  induction n with
  | zero => obtain rfl : j = 0 := by omega
            rfl
  | succ n ih =>
    rcases Nat.lt_or_ge n j with h' | h'
    · obtain rfl : j = n + 1 := by omega
      simp
    · rw [show n + 1 - j = (n - j) + 1 by omega]
      exact ih _ h'

/-- A store of a whole array is what the array then reads. -/
theorem read_whole {sp : Space} {s : Shape} {e : EltTy} (v : View sig .tc sp s e) (f : v.ty.Contents (Elt F)) {off : Fin s.rank → ℕ}
    (h0 : ∀ a, off a = 0) (inb : ∀ a, off a + s.size a ≤ s.size a) (w : Vec F s e) (L : List (View.Piece (Elt F) s e)) (y : s.Idx) :
    v.read (Elt F) (v.writes (Elt F) f ((⟨Rect.unit off s.size inb, w⟩ : View.Piece (Elt F) s e) :: L)) y = w y :=
  View.read_writes_cons_unit_of_mem v f inb w L y y rfl fun a => by rw [h0]; omega

/-- A load of a whole array is the array. -/
theorem cut_whole {s : Shape} {e : EltTy} (X : Vec F s e) {off : Fin s.rank → ℕ} (h0 : ∀ a, off a = 0)
    (inb : ∀ a, off a + s.size a ≤ s.size a) : cut X (Rect.unit off s.size inb) = X := by
  funext x
  refine congrArg X (funext fun a => Fin.ext ?_)
  show off a + 1 * (x a).val = (x a).val
  rw [h0]; omega

/-- The scratch array reads as the transposed block stored in it. -/
theorem read_gStore (v : View sig .tc .vmem S512x20 .f32) (f : v.ty.Contents (Elt F)) (arg5 : Memref sig .tc .vmem S1x20x512 .f32)
    (harg5 : arg5.IsWhole) (x3 : Vec F S1x20x512 .f32) (y : S512x20.Idx) :
    v.read (Elt F) (v.writes (Elt F) f (gStore arg5 harg5 x3)) y = k0_pay6 x3 y := by
  rw [gStore, readAt_unread, read_whole (s := S512x20) _ _ (by decide), cut_whole (s := S1x20x512) _ (by decide)]

/-- The state block reads as the initial states stored in it. -/
theorem read_sStore (v : View sig .tc .vmem S1x20x128x256 .f32) (f : v.ty.Contents (Elt F))
    (arg7 : Memref sig .tc .vmem S1x20x128x256 .f32) (harg7 : arg7.IsWhole) (x5 : Vec F S1x20x128x256 .f32) (y : S1x20x128x256.Idx) :
    v.read (Elt F) (v.writes (Elt F) f (sStore arg7 harg7 x5)) y = x5 y := by
  rw [sStore, readAt_unread, read_whole (s := S1x20x128x256) _ _ (by decide), cut_whole (s := S1x20x128x256) _ (by decide)]

/-- Loading the chunk's rows of the scratch array gives those rows of the transposed block. -/
theorem readAt_gStore (m : Memref sig .tc .vmem S512x20 .f32) (arg5 : Memref sig .tc .vmem S1x20x512 .f32)
    (harg5 : arg5.IsWhole) (x3 : Vec F S1x20x512 .f32) (r : Rect S512x20) :
    m.view.readAt (Elt F) r.toLoadRect (m.view.writes (Elt F) m.view.junk (gStore arg5 harg5 x3)) = cut (k0_pay6 x3) r :=
  funext fun _ => read_gStore _ _ _ _ _ _

/-- Loading a head of the state block before its own store gives what the block began with. -/
theorem readAt_chain (m : Memref sig .tc .vmem S1x20x128x256 .f32) (base : List (View.Piece (Elt F) S1x20x128x256 .f32))
    (X : Vec F S1x20x128x256 .f32) (hX : ∀ y, m.view.read (Elt F) (m.view.writes (Elt F) m.view.junk base) y = X y)
    (P : Fin 20 → Vec F S1x1x128x256 .f32 → FVec F S1x1x128x256 .f32) (h : Fin 20) :
    m.view.readAt (Elt F) (rState h).toLoadRect (m.view.writes (Elt F) m.view.junk (chain m base P h.val h.isLt.le))
      = cut X (rState h) := by
  funext x
  rw [chain_eq m base X hX, View.readAt_apply, View.writes_append]
  refine (View.read_tilePieces_miss _ _ _ _ _ _ h.val _ _ 1 fun i' hi' => ?_).trans (hX _)
  right
  show i'.val + 1 ≤ h.val + 1 * (x 1).val
  omega

variable (m : (ℓ : Loc nD τ sig) → Buf (Elt F) ℓ)

section First

variable (c : Dev nD) (t : Fin cfg0.N) (h0 : t.val % 8 = 0)
include h0

/-- At the first chunk the state block holds each head's new state from the initial one. -/
theorem state_first (h : Fin 20) (d : Fin 128) (v : Fin 256) : (outsAt0 m c t.val t.isLt).2.1 (ix4 0 h d v)
    = stateHead (cut (k0_pay6 (iblk m c 3 t)) (rChunk (grid0.coords t))) (cut (k0_pay6 (iblk m c 4 t)) (rChunk (grid0.coords t)))
        (cut (iblk m c 1 t) (rKey (keyOf h))) (cut (iblk m c 2 t) (rVal h)) (cut (iblk m c 5 t) (rState h)) (keyOf h) (sideOf h)
        (ix4 0 0 d v) := by
  rw [outsAt0_A m c t h0]
  dsimp only
  unfold out0_A_7
  rw [state_A, chain_A, chain_eq _ _ _ (read_sStore _ _ _ _ _), View.writes_append]
  refine (read_heads VO0_7 _ inb_state _ h d v).trans ?_
  rw [readAt_gStore, readAt_gStore]
  simp only [readAt_unread]
  rfl

/-- At the first chunk the output block holds each head's outputs from the initial state. -/
theorem output_first (h : Fin 20) (i : Fin 64) (v : Fin 256) : (outsAt0 m c t.val t.isLt).1 (ix4 0 h i v)
    = outputHead (cut (k0_pay6 (iblk m c 3 t)) (rChunk (grid0.coords t))) (cut (k0_pay6 (iblk m c 4 t)) (rChunk (grid0.coords t)))
        (cut (iblk m c 0 t) (rKey (keyOf h))) (cut (iblk m c 1 t) (rKey (keyOf h))) (cut (iblk m c 2 t) (rVal h))
        (cut (iblk m c 5 t) (rState h)) (keyOf h) (sideOf h) (ix4 0 0 i v) := by
  rw [outsAt0_A m c t h0]
  dsimp only
  unfold out0_A_6
  rw [output_A, state_A]
  refine (read_heads VO0_6 _ inb_val _ h i v).trans ?_
  rw [chain_A, chain_drop _ _ _ _ _ _ h.isLt.le, readAt_chain _ _ _ (read_sStore _ _ _ _ _)]
  rw [readAt_gStore, readAt_gStore]
  simp only [readAt_unread]
  rfl

/-- At the first chunk the key code block holds the codes of the keys. -/
theorem kcodes_first (h : Fin 10) (i : Fin 64) (d : Fin 128) : (outsAt0 m c t.val t.isLt).2.2.1 (ix4 0 h i d)
    = shapeCast S1x1x64x128 (codes (cut (iblk m c 1 t) (rKey h))) shapeCasts_S64x128_S1x1x64x128 (ix4 0 0 i d) := by
  rw [outsAt0_A m c t h0]
  dsimp only
  unfold out0_A_8
  rw [kcodes_A]
  refine (read_heads VO0_8 _ inb_key _ h i d).trans ?_
  simp only [readAt_unread]
  rfl

/-- At the first chunk the query code block holds the codes of the queries. -/
theorem qcodes_first (h : Fin 10) (i : Fin 64) (d : Fin 128) : (outsAt0 m c t.val t.isLt).2.2.2.2.1 (ix4 0 h i d)
    = shapeCast S1x1x64x128 (codes (cut (iblk m c 0 t) (rKey h))) shapeCasts_S64x128_S1x1x64x128 (ix4 0 0 i d) := by
  rw [outsAt0_A m c t h0]
  dsimp only
  unfold out0_A_10
  rw [qcodes_A]
  refine (read_heads VO0_10 _ inb_key _ h i d).trans ?_
  simp only [readAt_unread]
  rfl

/-- At the first chunk the key scale block is zeros with the chunk's row replaced. -/
theorem kscales_first : (outsAt0 m c t.val t.isLt).2.2.2.1
    = k0_pay2 (BitVec.ofNat 32 (grid0.coords t 1).val) (iota .tc S8x10 32 [0] iota_S8x10_d0_w32)
        (scaleRow (fun h => cut (iblk m c 1 t) (rKey h)) 10 le_rfl) k0_pay4 := by
  rw [outsAt0_A m c t h0]
  dsimp only
  unfold out0_A_9
  rw [kscales_A]
  funext y
  refine (read_whole (s := S1x8x10) VO0_9 _ (by decide) _ _ _ _).trans ?_
  simp only [readAt_unread]
  refine congrFun (congrArg (k0_pay2 _ _ _) ?_) y
  funext x
  rw [View.readAt_apply]
  refine (read_whole (s := S1x8x10) _ _ (by decide) _ _ _ _).trans rfl

/-- At the first chunk the query scale block is zeros with the chunk's row replaced. -/
theorem qscales_first : (outsAt0 m c t.val t.isLt).2.2.2.2.2.1
    = k0_pay2 (BitVec.ofNat 32 (grid0.coords t 1).val) (iota .tc S8x10 32 [0] iota_S8x10_d0_w32)
        (scaleRow (fun h => cut (iblk m c 0 t) (rKey h)) 10 le_rfl) k0_pay4 := by
  rw [outsAt0_A m c t h0]
  dsimp only
  unfold out0_A_11
  rw [qscales_A]
  funext y
  refine (read_whole (s := S1x8x10) VO0_11 _ (by decide) _ _ _ _).trans ?_
  simp only [readAt_unread]
  refine congrFun (congrArg (k0_pay2 _ _ _) ?_) y
  funext x
  rw [View.readAt_apply]
  refine (read_whole (s := S1x8x10) _ _ (by decide) _ _ _ _).trans rfl

/-- At the first chunk the gate scratch array becomes the transposed gates. -/
theorem gates_first : (outsAt0 m c t.val t.isLt).2.2.2.2.2.2.1 = k0_pay6 (iblk m c 3 t) := by
  rw [outsAt0_A m c t h0]
  dsimp only
  unfold sout0_A_0
  rw [gates_A]
  funext y
  exact read_gStore _ _ _ _ _ y

/-- At the first chunk the beta scratch array becomes the transposed betas. -/
theorem betas_first : (outsAt0 m c t.val t.isLt).2.2.2.2.2.2.2 = k0_pay6 (iblk m c 4 t) := by
  rw [outsAt0_A m c t h0]
  dsimp only
  unfold sout0_A_1
  rw [betas_A]
  funext y
  exact read_gStore _ _ _ _ _ y

end First

section Later

variable (c : Dev nD) (t : Fin cfg0.N) (h0 : ¬t.val % 8 = 0)
include h0

/-- The point before. -/
theorem pred_lt : t.val - 1 < cfg0.N := Nat.lt_of_le_of_lt (Nat.sub_le _ _) t.isLt

/-- At a later chunk the state block holds each head's new state from what it held before. -/
theorem state_later (h : Fin 20) (d : Fin 128) (v : Fin 256) : (outsAt0 m c t.val t.isLt).2.1 (ix4 0 h d v)
    = stateHead (cut (outsAt0 m c (t.val - 1) (Nat.lt_of_le_of_lt (Nat.sub_le _ _) t.isLt)).2.2.2.2.2.2.1 (rChunk (grid0.coords t)))
        (cut (outsAt0 m c (t.val - 1) (Nat.lt_of_le_of_lt (Nat.sub_le _ _) t.isLt)).2.2.2.2.2.2.2 (rChunk (grid0.coords t)))
        (cut (iblk m c 1 t) (rKey (keyOf h))) (cut (iblk m c 2 t) (rVal h))
        (cut (outsAt0 m c (t.val - 1) (Nat.lt_of_le_of_lt (Nat.sub_le _ _) t.isLt)).2.1 (rState h)) (keyOf h) (sideOf h)
        (ix4 0 0 d v) := by
  rw [outsAt0_B m c t h0]
  dsimp only
  unfold out0_B_7
  rw [state_B]
  refine (read_heads VO0_7 _ inb_state _ h d v).trans ?_
  rw [readAt_unread, readAt_unread, readAt_unread, readAt_unread, readAt_unread]
  rfl

/-- At a later chunk the output block holds each head's outputs from the state before. -/
theorem output_later (h : Fin 20) (i : Fin 64) (v : Fin 256) : (outsAt0 m c t.val t.isLt).1 (ix4 0 h i v)
    = outputHead (cut (outsAt0 m c (t.val - 1) (Nat.lt_of_le_of_lt (Nat.sub_le _ _) t.isLt)).2.2.2.2.2.2.1 (rChunk (grid0.coords t)))
        (cut (outsAt0 m c (t.val - 1) (Nat.lt_of_le_of_lt (Nat.sub_le _ _) t.isLt)).2.2.2.2.2.2.2 (rChunk (grid0.coords t)))
        (cut (iblk m c 0 t) (rKey (keyOf h))) (cut (iblk m c 1 t) (rKey (keyOf h))) (cut (iblk m c 2 t) (rVal h))
        (cut (outsAt0 m c (t.val - 1) (Nat.lt_of_le_of_lt (Nat.sub_le _ _) t.isLt)).2.1 (rState h)) (keyOf h) (sideOf h)
        (ix4 0 0 i v) := by
  rw [outsAt0_B m c t h0]
  dsimp only
  unfold out0_B_6
  rw [output_B]
  refine (read_heads VO0_6 _ inb_val _ h i v).trans ?_
  rw [readAt_unread, readAt_unread, readAt_unread, readAt_unread, readAt_unread, readAt_unread]
  rfl

/-- At a later chunk the key code block holds the codes of the keys. -/
theorem kcodes_later (h : Fin 10) (i : Fin 64) (d : Fin 128) : (outsAt0 m c t.val t.isLt).2.2.1 (ix4 0 h i d)
    = shapeCast S1x1x64x128 (codes (cut (iblk m c 1 t) (rKey h))) shapeCasts_S64x128_S1x1x64x128 (ix4 0 0 i d) := by
  rw [outsAt0_B m c t h0]
  dsimp only
  unfold out0_B_8
  rw [kcodes_B]
  refine (read_heads VO0_8 _ inb_key _ h i d).trans ?_
  simp only [readAt_unread]
  rfl

/-- At a later chunk the query code block holds the codes of the queries. -/
theorem qcodes_later (h : Fin 10) (i : Fin 64) (d : Fin 128) : (outsAt0 m c t.val t.isLt).2.2.2.2.1 (ix4 0 h i d)
    = shapeCast S1x1x64x128 (codes (cut (iblk m c 0 t) (rKey h))) shapeCasts_S64x128_S1x1x64x128 (ix4 0 0 i d) := by
  rw [outsAt0_B m c t h0]
  dsimp only
  unfold out0_B_10
  rw [qcodes_B]
  refine (read_heads VO0_10 _ inb_key _ h i d).trans ?_
  simp only [readAt_unread]
  rfl

/-- At a later chunk the key scale block is what it was with the chunk's row replaced. -/
theorem kscales_later : (outsAt0 m c t.val t.isLt).2.2.2.1
    = k0_pay2 (BitVec.ofNat 32 (grid0.coords t 1).val) (iota .tc S8x10 32 [0] iota_S8x10_d0_w32)
        (scaleRow (fun h => cut (iblk m c 1 t) (rKey h)) 10 le_rfl)
        (outsAt0 m c (t.val - 1) (Nat.lt_of_le_of_lt (Nat.sub_le _ _) t.isLt)).2.2.2.1 := by
  rw [outsAt0_B m c t h0]
  dsimp only
  unfold out0_B_9
  rw [kscales_B]
  funext y
  refine (read_whole (s := S1x8x10) VO0_9 _ (by decide) _ _ _ _).trans ?_
  simp only [readAt_unread]
  rw [cut_whole (s := S1x8x10) _ (by decide)]
  rfl

/-- At a later chunk the query scale block is what it was with the chunk's row replaced. -/
theorem qscales_later : (outsAt0 m c t.val t.isLt).2.2.2.2.2.1
    = k0_pay2 (BitVec.ofNat 32 (grid0.coords t 1).val) (iota .tc S8x10 32 [0] iota_S8x10_d0_w32)
        (scaleRow (fun h => cut (iblk m c 0 t) (rKey h)) 10 le_rfl)
        (outsAt0 m c (t.val - 1) (Nat.lt_of_le_of_lt (Nat.sub_le _ _) t.isLt)).2.2.2.2.2.1 := by
  rw [outsAt0_B m c t h0]
  dsimp only
  unfold out0_B_11
  rw [qscales_B]
  funext y
  refine (read_whole (s := S1x8x10) VO0_11 _ (by decide) _ _ _ _).trans ?_
  simp only [readAt_unread]
  rw [cut_whole (s := S1x8x10) _ (by decide)]
  rfl

/-- At a later chunk the gate scratch array stays. -/
theorem gates_later : (outsAt0 m c t.val t.isLt).2.2.2.2.2.2.1
    = (outsAt0 m c (t.val - 1) (Nat.lt_of_le_of_lt (Nat.sub_le _ _) t.isLt)).2.2.2.2.2.2.1 := by
  rw [outsAt0_B m c t h0]
  rfl

/-- At a later chunk the beta scratch array stays. -/
theorem betas_later : (outsAt0 m c t.val t.isLt).2.2.2.2.2.2.2
    = (outsAt0 m c (t.val - 1) (Nat.lt_of_le_of_lt (Nat.sub_le _ _) t.isLt)).2.2.2.2.2.2.2 := by
  rw [outsAt0_B m c t h0]
  rfl

end Later

end Cert.KernelIdeal.Head

end
-- ==== Proof.Quant.lean ====
/- The quantiser's arithmetic over the extended reals. The kernel counts the powers of two that do not exceed a bound and
   builds the scale from the count; the reference takes the least power of two above the bound. -/
module

public import Idealize.ShloMosaic.Lib.Pipeline.ValueKit
public import Mathlib.Tactic.Ring
public import Mathlib.Tactic.Linarith
public import Mathlib.Tactic.NormNum

@[expose] public section

set_option maxRecDepth 16384

noncomputable section

namespace Cert.Quant

open Idealize.ShloMosaic

/-- The power of two with biased exponent `i`. -/
def pw (i : ℕ) : ℝ := (2 : ℝ) ^ ((i : ℤ) - 127)

/-- Powers of two are positive. -/
theorem pw_pos (i : ℕ) : 0 < pw i := zpow_pos (by norm_num) _

/-- Powers of two grow with the exponent. -/
theorem pw_lt {i j : ℕ} (h : i < j) : pw i < pw j :=
  zpow_lt_zpow_right₀ (by norm_num) (by omega)

/-- Powers of two do not fall as the exponent grows. -/
theorem pw_le {i j : ℕ} (h : i ≤ j) : pw i ≤ pw j :=
  zpow_le_zpow_right₀ (by norm_num) (by omega)

/-- The power with the opposite exponent is the reciprocal. -/
theorem pw_mul (c : ℕ) (h : c ≤ 254) : pw (254 - c) = 1 / pw c := by
  unfold pw
  rw [one_div, ← zpow_neg]
  congr 1
  omega

/-- The power with biased exponent 127 is one. -/
theorem pw_one : pw 127 = 1 := by unfold pw; norm_num

/-- The sign, exponent and fraction of the word with exponent field `i` and nothing else. -/
theorem bits_fields : ∀ i : Fin 256,
    ((IntOp.shli ArithUnit.vector (BitVec.ofNat 32 i.val) 23#32).extractLsb' (8 + 23) 1 == 1#1) = false
      ∧ ((IntOp.shli ArithUnit.vector (BitVec.ofNat 32 i.val) 23#32).extractLsb' 23 8).toNat = i.val
      ∧ ((IntOp.shli ArithUnit.vector (BitVec.ofNat 32 i.val) 23#32).extractLsb' 0 23).toNat = 0 := by
  decide +kernel

/-- A word without sign and fraction denotes the power of two of its exponent field. -/
theorem ieee_power (b : BitVec 32) (i : ℕ) (h1 : (b.extractLsb' (8 + 23) 1 == 1#1) = false)
    (h2 : (b.extractLsb' 23 8).toNat = i) (h3 : (b.extractLsb' 0 23).toNat = 0) :
    Ideal.ieee 8 23 b = if i = 255 then ⊤ else if i = 0 then 0 else ((pw i : ℝ) : EReal) := by
  unfold Ideal.ieee
  simp only [h1, h2, h3]
  by_cases h : i = 255
  · simp [h]
  · rw [if_neg (by intro e; apply h; rw [e]; norm_num), if_neg h]
    by_cases h0 : i = 0
    · rw [if_pos h0, if_pos h0]; norm_num
    · rw [if_neg h0, if_neg h0]
      congr 1
      unfold pw
      have e : ((i : ℤ) - 127) = 23 + ((i : ℤ) - (2 ^ (8 - 1) - 1) - (23 : ℕ)) := by norm_num
      rw [e, zpow_add₀ (by norm_num)]
      norm_num

/-- What the word with exponent field `i` and nothing else denotes. -/
theorem ofBits_power (i : Fin 256) :
    Ideal.ofBits .f32 (IntOp.shli ArithUnit.vector (BitVec.ofNat 32 i.val) 23#32)
      = if i.val = 255 then ⊤ else if i.val = 0 then 0 else ((pw i.val : ℝ) : EReal) := by
  obtain ⟨h1, h2, h3⟩ := bits_fields i
  exact ieee_power _ _ h1 h2 h3

/-- The exponent of count `c` with the bias added is `c`. -/
theorem word_up : ∀ c : Fin 256,
    IntOp.addi (IntOp.subi (IntOp.subi (BitVec.ofNat 32 c.val) 1#32) 126#32) 127#32 = BitVec.ofNat 32 c.val := by
  decide +kernel

/-- The bias less the exponent of count `c` is `254 - c`. -/
theorem word_down : ∀ c : Fin 255,
    IntOp.subi 127#32 (IntOp.subi (IntOp.subi (BitVec.ofNat 32 c.val) 1#32) 126#32) = BitVec.ofNat 32 (254 - c.val) := by
  decide +kernel

/-- A sum of zeros and ones over the extended reals is a count. -/
theorem sum_count {n : ℕ} (P : Fin n → Prop) [DecidablePred P] :
    (∑ i, if P i then (0 : EReal) else 1) = (((Finset.univ.filter fun i => ¬ P i).card : ℝ) : EReal) := by
  have h : ∀ S : Finset (Fin n), (∑ i ∈ S, if P i then (0 : EReal) else 1)
      = (((S.filter fun i => ¬ P i).card : ℝ) : EReal) := by
    classical
    intro S
    induction S using Finset.induction_on with
    | empty => simp
    | insert a S ha ih =>
      rw [Finset.sum_insert ha, ih, Finset.filter_insert]
      by_cases hp : P a
      · simp [hp]
      · rw [if_neg hp, if_pos hp, Finset.card_insert_of_notMem (by simp [ha])]
        push_cast
        rw [add_comm]
  exact h _

/-- A small natural number converts to its word. -/
theorem fptosi_nat (c : ℕ) (h : c ≤ 256) : Ideal.fptosi 32 ((c : ℝ) : EReal) = BitVec.ofNat 32 c := by
  rw [Ideal.fptosi, Ideal.toIntClamped_coe, if_pos (Nat.cast_nonneg c), Int.floor_natCast]
  have : max (-((2 ^ (32 - 1) : ℕ) : ℤ)) (min (((2 ^ (32 - 1) : ℕ) : ℤ) - 1) (c : ℤ)) = c := by
    norm_num
    omega
  rw [this]
  exact BitVec.ofInt_natCast 32 c

/-- The factor one over 448 as float32 has it. -/
def inv448 : EReal := Ideal.ofBits .f32 991054117#32

/-- One over 448 as float32 is a positive real number of at most one over 256. -/
theorem inv448_real : ∃ c : ℝ, inv448 = (c : EReal) ∧ 0 < c ∧ c ≤ 1 / 256 := by
  refine ⟨(9586981 : ℝ) * 2 ^ (-32 : ℤ), ?_, by positivity, by norm_num⟩
  simp [inv448, Ideal.ofBits, Ideal.ieee, -EReal.coe_mul]

/-- How many of the 256 powers do not exceed `p`. -/
def count (p : EReal) : ℕ :=
  (Finset.univ.filter fun i : Fin 256 =>
    ¬ p < Ideal.ofBits .f32 (IntOp.shli ArithUnit.vector (BitVec.ofNat 32 i.val) 23#32)).card

/-- For a bound between zero and `2 ^ 126`, the count is the exponent of the least power above it. -/
theorem count_spec (p : ℝ) (h0 : 0 ≤ p) (h1 : p < pw 253) :
    1 ≤ count p ∧ count p ≤ 253 ∧ p < pw (count p) ∧ ∀ j, 1 ≤ j → j < count p → pw j ≤ p := by
  classical
  have hex : ∃ c, 1 ≤ c ∧ p < pw c := ⟨253, by norm_num, h1⟩
  let c := Nat.find hex
  have hc := Nat.find_spec hex
  have hc253 : c ≤ 253 := Nat.find_min' hex ⟨by norm_num, h1⟩
  have hmin : ∀ j, 1 ≤ j → j < c → pw j ≤ p := fun j hj hjc =>
    not_lt.1 fun h => Nat.find_min hex hjc ⟨hj, h⟩
  have hcount : count p = c := by
    unfold count
    have : (Finset.univ.filter fun i : Fin 256 =>
        ¬ (p : EReal) < Ideal.ofBits .f32 (IntOp.shli ArithUnit.vector (BitVec.ofNat 32 i.val) 23#32))
        = Finset.univ.filter fun i : Fin 256 => i.val < c := by
      ext i
      simp only [Finset.mem_filter, Finset.mem_univ, true_and]
      rw [ofBits_power]
      by_cases hi : i.val = 255
      · simp only [hi, if_true]
        constructor
        · intro h; exact absurd (EReal.coe_lt_top p) h
        · intro h; omega
      · rw [if_neg hi]
        by_cases hi0 : i.val = 0
        · rw [if_pos hi0]
          constructor
          · intro _; have := hc.1; show i.val < c; omega
          · intro _; rw [not_lt]; exact_mod_cast h0
        · rw [if_neg hi0, EReal.coe_lt_coe_iff, not_lt]
          constructor
          · intro h; by_contra hn; exact absurd (lt_of_lt_of_le hc.2 (pw_le (not_lt.1 hn))) (not_lt.2 h)
          · intro h; exact hmin _ (by omega) h
    rw [this]
    have := Fin.card_filter_val_lt (n := 256) (m := c)
    rw [this]
    omega
  rw [hcount]
  exact ⟨hc.1, hc253, hc.2, hmin⟩

/-- The exponent word the kernel derives from the largest magnitude. -/
def expoOf (a : EReal) : BitVec 32 :=
  if a * inv448 = 0 then 0#32
  else IntOp.subi (IntOp.subi (Ideal.fptosi 32 (∑ i : Fin 256,
    if a * inv448 < Ideal.ofBits .f32 (IntOp.shli ArithUnit.vector (BitVec.ofNat 32 i.val) 23#32)
      then (0 : EReal) else 1)) 1#32) 126#32

/-- The quantiser's scale for a block whose largest magnitude is `a`: one for a block of zeros, otherwise the least power of
    two above `a / 448`. -/
def qscale (a : EReal) : ℝ := if a = 0 then 1 else pw (count (a * inv448))

/-- The scale is positive. -/
theorem qscale_pos (a : EReal) : 0 < qscale a := by
  unfold qscale; split
  · norm_num
  · exact pw_pos _

/-- A largest magnitude in the range of bfloat16. -/
def Bounded (a : EReal) : Prop := 0 ≤ a ∧ a ≤ ((2 ^ 128 : ℝ) : EReal)

/-- A bounded magnitude is a real number. -/
theorem Bounded.real {a : EReal} (h : Bounded a) : ∃ r : ℝ, a = (r : EReal) ∧ 0 ≤ r ∧ r ≤ 2 ^ 128 := by
  obtain ⟨h0, h1⟩ := h
  induction a using EReal.rec with
  | bot => exact absurd h0 (by simp)
  | top => exact absurd h1 (by rw [not_le]; exact EReal.coe_lt_top _)
  | coe r => exact ⟨r, rfl, by exact_mod_cast h0, by exact_mod_cast h1⟩

/-- The bound for a block of bfloat16: a real number below `2 ^ 126`, zero only for a block of zeros. -/
theorem bound_real {a : EReal} (h : Bounded a) :
    ∃ p : ℝ, a * inv448 = (p : EReal) ∧ 0 ≤ p ∧ p < pw 253 ∧ (a * inv448 = 0 ↔ a = 0) := by
  obtain ⟨r, rfl, h0, h1⟩ := h.real
  obtain ⟨c, hc, hc0, hc1⟩ := inv448_real
  refine ⟨r * c, by rw [hc, EReal.coe_mul], by positivity, ?_, ?_⟩
  · have : r * c ≤ 2 ^ 128 * (1 / 256) := by gcongr
    refine lt_of_le_of_lt this ?_
    unfold pw; norm_num
  · rw [hc, ← EReal.coe_mul, EReal.coe_eq_zero, EReal.coe_eq_zero]
    constructor
    · intro h; rcases mul_eq_zero.1 h with h | h
      · exact h
      · exact absurd h hc0.ne'
    · intro h; rw [h, zero_mul]

/-- The exponent word of a bounded magnitude, by the count. -/
theorem expoOf_eq {a : EReal} (h : Bounded a) :
    expoOf a = if a = 0 then 0#32 else IntOp.subi (IntOp.subi (BitVec.ofNat 32 (count (a * inv448))) 1#32) 126#32 := by
  obtain ⟨p, hp, h0, h1, hz⟩ := bound_real h
  obtain ⟨k1, k2, _, _⟩ := count_spec p h0 h1
  unfold expoOf
  by_cases ha : a = 0
  · rw [if_pos (hz.2 ha), if_pos ha]
  · rw [if_neg (fun e => ha (hz.1 e)), if_neg ha]
    congr 2
    rw [sum_count]
    exact fptosi_nat _ (by show count _ ≤ 256; rw [hp]; omega)

/-- The kernel's scale. -/
theorem kernel_scale {a : EReal} (h : Bounded a) :
    Ideal.ofBits .f32 (IntOp.shli ArithUnit.vector (IntOp.addi (expoOf a) 127#32) 23#32) = ((qscale a : ℝ) : EReal) := by
  obtain ⟨p, hp, h0, h1, hz⟩ := bound_real h
  obtain ⟨k1, k2, _, _⟩ := count_spec p h0 h1
  rw [expoOf_eq h]
  unfold qscale
  by_cases ha : a = 0
  · rw [if_pos ha, if_pos ha]
    have := ofBits_power ⟨127, by norm_num⟩
    rw [if_neg (by norm_num), if_neg (by norm_num), pw_one] at this
    exact this
  · rw [if_neg ha, if_neg ha, hp]
    have e := word_up ⟨count p, by omega⟩
    rw [show (⟨count p, by omega⟩ : Fin 256).val = count p from rfl] at e
    rw [e]
    have := ofBits_power ⟨count p, by omega⟩
    rw [if_neg (by show ¬ count p = 255; omega), if_neg (by show ¬ count p = 0; omega)] at this
    exact this

/-- The factor by which the kernel multiplies a block before it clips: one over the scale. -/
theorem kernel_factor {a : EReal} (h : Bounded a) :
    Ideal.ofBits .f32 (IntOp.shli ArithUnit.vector (IntOp.subi 127#32 (expoOf a)) 23#32)
      = ((1 / qscale a : ℝ) : EReal) := by
  obtain ⟨p, hp, h0, h1, hz⟩ := bound_real h
  obtain ⟨k1, k2, _, _⟩ := count_spec p h0 h1
  rw [expoOf_eq h]
  unfold qscale
  by_cases ha : a = 0
  · rw [if_pos ha, if_pos ha]
    have := ofBits_power ⟨127, by norm_num⟩
    rw [if_neg (by norm_num), if_neg (by norm_num), pw_one] at this
    rw [div_one]
    exact this
  · rw [if_neg ha, if_neg ha, hp]
    have e := word_down ⟨count p, by omega⟩
    rw [show (⟨count p, by omega⟩ : Fin 255).val = count p from rfl] at e
    rw [e]
    have := ofBits_power ⟨254 - count p, by omega⟩
    rw [if_neg (by show ¬ 254 - count p = 255; omega), if_neg (by show ¬ 254 - count p = 0; omega)] at this
    rw [← pw_mul _ (by omega)]
    exact this

/-- The reference's scale: the least of the powers from `2 ^ -126` to `2 ^ 127` above the bound. -/
theorem reference_scale {a : EReal} (h : Bounded a) (f : Fin 254 → EReal)
    (hf : ∀ j, f j = ((pw (j.val + 1) : ℝ) : EReal)) :
    (if a = 0 then (1 : EReal) else Finset.fold min ⊤ (fun j => if a * inv448 < f j then f j else ⊤) Finset.univ)
      = ((qscale a : ℝ) : EReal) := by
  obtain ⟨p, hp, h0, h1, hz⟩ := bound_real h
  obtain ⟨k1, k2, k3, k4⟩ := count_spec p h0 h1
  unfold qscale
  by_cases ha : a = 0
  · rw [if_pos ha, if_pos ha]; rfl
  · rw [if_neg ha, if_neg ha, hp]
    apply le_antisymm
    · have : Finset.fold min ⊤ (fun j => if (p : EReal) < f j then f j else ⊤) Finset.univ
          ≤ (if (p : EReal) < f ⟨count p - 1, by omega⟩ then f ⟨count p - 1, by omega⟩ else ⊤) :=
        Finset.fold_min_le _ |>.2 (.inr ⟨_, Finset.mem_univ _, le_rfl⟩)
      refine this.trans ?_
      rw [hf, if_pos]
      · rw [show count p - 1 + 1 = count p by omega]
      · rw [show count p - 1 + 1 = count p by omega]; exact_mod_cast k3
    · rw [Finset.le_fold_min]
      refine ⟨le_top, fun j _ => ?_⟩
      split
      · rename_i hlt
        rw [hf] at hlt ⊢
        rw [EReal.coe_le_coe_iff]
        apply pw_le
        by_contra hn
        exact absurd (k4 (j.val + 1) (by omega) (by omega)) (not_le.2 (by exact_mod_cast hlt))
      · exact le_top

end Cert.Quant
-- ==== Proof.Linear.lean ====
/- Real matrices: inverting a unit lower triangular matrix by eliminating columns, by blocks and by repeated squaring, and
   the change of scale that relates the two forms of one chunk of the gated delta rule. Nothing here names a program. -/
module

public import Mathlib.Data.Matrix.Mul
public import Mathlib.Data.Real.Basic
public import Mathlib.LinearAlgebra.Matrix.NonsingularInverse
public import Mathlib.Tactic.NoncommRing
public import Mathlib.Tactic.Ring
public import Mathlib.Tactic.Linarith

@[expose] public section

namespace Cert.Linear

open Matrix

/-- Strictly lower triangular: every entry on or above the diagonal is zero. -/
def StrictLower {n : ℕ} (A : Matrix (Fin n) (Fin n) ℝ) : Prop := ∀ i j : Fin n, i.val ≤ j.val → A i j = 0

/-- After `k` column eliminations: the columns from `k` on are those of the identity, and `T` inverts the unit lower
    triangular matrix made of the first `k` columns of `A`. -/
structure Eliminated {n : ℕ} (A T : Matrix (Fin n) (Fin n) ℝ) (k : ℕ) : Prop where
  tail : ∀ i j : Fin n, k ≤ j.val → T i j = if i = j then 1 else 0
  inv : T * (1 + Matrix.of fun i j => if j.val < k then A i j else 0) = 1

/-- The identity has eliminated no column. -/
theorem Eliminated.zero {n : ℕ} (A : Matrix (Fin n) (Fin n) ℝ) : Eliminated A 1 0 where
  tail i j _ := by simp [Matrix.one_apply]
  inv := by
    have : (Matrix.of fun i j : Fin n => if j.val < 0 then A i j else 0) = 0 := by ext i j; simp
    rw [this]; simp

/-- Subtracting column `k` of `A` times row `k` of `T` eliminates one more column. -/
theorem Eliminated.succ {n : ℕ} {A T : Matrix (Fin n) (Fin n) ℝ} (hA : StrictLower A) {k : ℕ} (hk : k < n)
    (h : Eliminated A T k) :
    Eliminated A (Matrix.of fun i j => T i j - A i ⟨k, hk⟩ * T ⟨k, hk⟩ j) (k + 1) := by
  have hrow : ∀ j : Fin n, k + 1 ≤ j.val → T ⟨k, hk⟩ j = 0 := fun j hj => by
    rw [h.tail _ _ (by omega), if_neg]
    intro e; have := congrArg Fin.val e; simp at this; omega
  refine ⟨fun i j hj => ?_, ?_⟩
  · simp only [Matrix.of_apply]
    rw [hrow j hj, h.tail i j (by omega)]; simp
  · -- the new factor is `1 - a`, the new matrix is the old one plus `a`, with `a` column `k` of `A` alone
    set a : Matrix (Fin n) (Fin n) ℝ := Matrix.of fun i j => if j.val = k then A i j else 0 with ha
    set M : Matrix (Fin n) (Fin n) ℝ := 1 + Matrix.of fun i j => if j.val < k then A i j else 0 with hM
    have e1 : (Matrix.of fun i j => T i j - A i ⟨k, hk⟩ * T ⟨k, hk⟩ j) = (1 - a) * T := by
      ext i j
      rw [sub_mul, one_mul, Matrix.sub_apply, Matrix.mul_apply, Matrix.of_apply,
        Finset.sum_eq_single (⟨k, hk⟩ : Fin n)]
      · simp [ha]
      · intro b _ hb
        have : b.val ≠ k := fun e => hb (Fin.ext e)
        simp [ha, this]
      · intro hb; exact absurd (Finset.mem_univ _) hb
    have e2 : (1 + Matrix.of fun i j : Fin n => if j.val < k + 1 then A i j else 0) = M + a := by
      rw [hM, add_assoc]; congr 1
      ext i j
      simp only [Matrix.of_apply, Matrix.add_apply, ha]
      rcases lt_trichotomy j.val k with hj | hj | hj
      · rw [if_pos (by omega), if_pos hj, if_neg (by omega)]; ring
      · rw [if_pos (by omega), if_neg (by omega), if_pos hj]; ring
      · rw [if_neg (by omega), if_neg (by omega), if_neg (by omega)]; ring
    have e3 : T * a = a := by
      ext i j
      rw [Matrix.mul_apply]
      by_cases hj : j.val = k
      · have : ∀ l : Fin n, T i l * a l j = if i = l then A i j else 0 := fun l => by
          simp only [ha, Matrix.of_apply, if_pos hj]
          by_cases hl : l.val ≤ j.val
          · rw [hA l j hl]
            split
            · next e => subst e; rw [hA i j hl]; simp
            · simp
          · rw [h.tail i l (by omega)]
            split
            · next e => subst e; simp
            · simp
        rw [Finset.sum_congr rfl fun l _ => this l]
        simp [ha, hj]
      · simp [ha, hj]
    have e4 : a * a = 0 := by
      ext i j
      rw [Matrix.mul_apply]
      refine Finset.sum_eq_zero fun l _ => ?_
      simp only [ha, Matrix.of_apply]
      by_cases hl : l.val = k
      · by_cases hj : j.val = k
        · rw [if_pos hj, hA l j (by omega)]; simp
        · simp [hj]
      · simp [hl]
    rw [e1, e2, Matrix.mul_assoc, mul_add, h.inv, e3, sub_mul, one_mul, mul_add, mul_one, e4]
    simp

/-- With every column but the last eliminated, `T` inverts `1 + A`. -/
theorem Eliminated.inverse {n : ℕ} {A T : Matrix (Fin (n + 1)) (Fin (n + 1)) ℝ} (hA : StrictLower A) (h : Eliminated A T n) :
    T * (1 + A) = 1 := by
  have : (Matrix.of fun i j : Fin (n + 1) => if j.val < n then A i j else 0) = A := by
    ext i j
    simp only [Matrix.of_apply]
    split
    · rfl
    · rw [hA i j (by have := i.isLt; omega)]
  have h' := h.inv
  rwa [this] at h'

/-- The inverse of a unit lower triangular matrix by blocks of half its size. -/
theorem block_inverse {n : ℕ} (A : Matrix (Fin n ⊕ Fin n) (Fin n ⊕ Fin n) ℝ) (T1 T2 T21 : Matrix (Fin n) (Fin n) ℝ)
    (h12 : A.toBlocks₁₂ = 0) (h1 : T1 * (1 + A.toBlocks₁₁) = 1) (h2 : T2 * (1 + A.toBlocks₂₂) = 1)
    (h21 : T21 = -(T2 * (A.toBlocks₂₁ * T1))) :
    Matrix.fromBlocks T1 0 T21 T2 * (1 + A) = 1 := by
  have e : (1 + A : Matrix (Fin n ⊕ Fin n) (Fin n ⊕ Fin n) ℝ)
      = Matrix.fromBlocks (1 + A.toBlocks₁₁) 0 A.toBlocks₂₁ (1 + A.toBlocks₂₂) := by
    rw [← Matrix.fromBlocks_one]
    conv_lhs => rw [← Matrix.fromBlocks_toBlocks A, h12, Matrix.fromBlocks_add]
    simp
  have h1' : T1 + T1 * A.toBlocks₁₁ = 1 := by rw [← h1, mul_add, mul_one]
  rw [e, Matrix.fromBlocks_multiply, ← Matrix.fromBlocks_one]
  congr 1
  · simp [h1]
  · simp
  · rw [h21, Matrix.neg_mul, Matrix.mul_assoc, Matrix.mul_assoc, h1, mul_one]; simp
  · simp [h2]

/-- Powers of a strictly lower triangular matrix vanish further below the diagonal. -/
theorem StrictLower.pow {n : ℕ} {A : Matrix (Fin n) (Fin n) ℝ} (hA : StrictLower A) (p : ℕ) :
    ∀ i j : Fin n, i.val < j.val + p → (A ^ p) i j = 0 := by
  induction p with
  | zero => intro i j h; rw [pow_zero, Matrix.one_apply_ne]; intro e; subst e; omega
  | succ p ih =>
    intro i j h
    rw [pow_succ, Matrix.mul_apply]
    refine Finset.sum_eq_zero fun l _ => ?_
    by_cases hl : l.val ≤ j.val
    · rw [hA l j hl, mul_zero]
    · rw [ih i l (by omega), zero_mul]

/-- `(1 - A)(1 + A^2)(1 + A^4)…(1 + A^32)` inverts `1 + A` when `A` is strictly lower triangular of order at most 64. -/
theorem doubling_inverse {A P1 P2 P3 P4 P5 T0 T1 T2 T3 T4 T5 : Matrix (Fin 64) (Fin 64) ℝ} (hA : StrictLower A)
    (h0 : T0 = 1 - A) (p1 : P1 = A * A) (t1 : T1 = T0 + T0 * P1) (p2 : P2 = P1 * P1) (t2 : T2 = T1 + T1 * P2)
    (p3 : P3 = P2 * P2) (t3 : T3 = T2 + T2 * P3) (p4 : P4 = P3 * P3) (t4 : T4 = T3 + T3 * P4)
    (p5 : P5 = P4 * P4) (t5 : T5 = T4 + T4 * P5) : T5 * (1 + A) = 1 := by
  have hz : A ^ 64 = 0 := by
    ext i j; exact hA.pow 64 i j (by have := i.isLt; omega)
  have : T5 * (1 + A) = 1 - A ^ 64 := by
    subst h0 p1 t1 p2 t2 p3 t3 p4 t4 p5 t5
    noncomm_ring
  rw [this, hz, sub_zero]

/-- Two systems that differ by the scale `d` of their rows and columns have solutions that differ by `d`: with
    `A' i j * d j = d i * A i j`, `T'` the inverse of `1 + A'` and `x` a solution of `(1 + A) x = y`,
    `T'` takes `d i * y i` to `d i * x i`. -/
theorem scaled_solution {n : ℕ} (A A' T T' : Matrix (Fin n) (Fin n) ℝ) (d y : Fin n → ℝ)
    (hs : ∀ i j, A' i j * d j = d i * A i j) (hT' : T' * (1 + A') = 1) (hT : T * (1 + A) = 1) (i : Fin n) :
    ∑ j, T' i j * (d j * y j) = d i * ∑ j, T i j * y j := by
  have hT2 : (1 + A) * T = 1 := mul_eq_one_comm.mp hT
  set x : Fin n → ℝ := T.mulVec y with hx
  have hy : (1 + A).mulVec x = y := by rw [hx, Matrix.mulVec_mulVec, hT2, Matrix.one_mulVec]
  have hdy : (fun j => d j * y j) = (1 + A').mulVec (fun j => d j * x j) := by
    funext j
    rw [← hy]
    rw [Matrix.add_mulVec, Matrix.add_mulVec, Matrix.one_mulVec, Matrix.one_mulVec, Pi.add_apply, Pi.add_apply, mul_add]
    congr 1
    simp only [Matrix.mulVec, dotProduct, Finset.mul_sum]
    refine Finset.sum_congr rfl fun l _ => ?_
    rw [← mul_assoc, ← mul_assoc, hs]
  have : T'.mulVec (fun j => d j * y j) = fun j => d j * x j := by
    rw [hdy, Matrix.mulVec_mulVec, hT', Matrix.one_mulVec]
  exact congrFun this i

end Cert.Linear
-- ==== Proof.Spec.lean ====
/- One chunk of the gated delta rule over the real numbers, written as the reference computes it. -/
module

public import proofs.«01_k».proof.Proof.Quant
public import proofs.«01_k».proof.Proof.Linear
public import Mathlib.LinearAlgebra.Matrix.NonsingularInverse

@[expose] public section

noncomputable section

namespace Cert.Chunk

open Idealize.ShloMosaic

/-- The constant under the square root of the norms. -/
def eps : ℝ := (Ideal.ofBits .f32 897988541#32).toReal
/-- The reciprocal square root of 128 as float32 has it. -/
def root : ℝ := (Ideal.ofBits .f32 1035273459#32).toReal

/-- The constant under the square root is a real number. -/
theorem eps_coe : Ideal.ofBits .f32 897988541#32 = ((eps : ℝ) : EReal) := by
  rw [eps]; simp [Ideal.ofBits, Ideal.ieee, -EReal.coe_mul]
/-- The constant under the square root is positive. -/
theorem eps_pos : 0 < eps := by
  rw [eps]; simp [Ideal.ofBits, Ideal.ieee, -EReal.coe_mul]
/-- The reciprocal square root of 128 is a real number. -/
theorem root_coe : Ideal.ofBits .f32 1035273459#32 = ((root : ℝ) : EReal) := by
  rw [root]; simp [Ideal.ofBits, Ideal.ieee, -EReal.coe_mul]
/-- The word of 448. -/
theorem top_coe : Ideal.ofBits .f32 1138753536#32 = ((448 : ℝ) : EReal) := by
  simp [Ideal.ofBits, Ideal.ieee, -EReal.coe_mul]; norm_num
/-- The word of -448. -/
theorem bottom_coe : Ideal.ofBits .f32 3286237184#32 = ((-448 : ℝ) : EReal) := by
  simp [Ideal.ofBits, Ideal.ieee, -EReal.coe_mul]; norm_num
/-- The word of 1. -/
theorem one_coe : Ideal.ofBits .f32 1065353216#32 = 1 := by
  simp [Ideal.ofBits, Ideal.ieee, -EReal.coe_mul]; norm_num
/-- The word of minus infinity. -/
theorem bot_bits : Ideal.ofBits .f32 4286578688#32 = ⊥ := by simp [Ideal.ofBits, Ideal.ieee]
/-- The word of infinity. -/
theorem top_bits : Ideal.ofBits .f32 2139095040#32 = ⊤ := by simp [Ideal.ofBits, Ideal.ieee]

/-- A finite sum of real numbers is the same over the extended reals. -/
theorem coe_sum {ι : Type} (S : Finset ι) (f : ι → ℝ) : ((∑ i ∈ S, f i : ℝ) : EReal) = ∑ i ∈ S, ((f i : ℝ) : EReal) := by
  classical
  induction S using Finset.induction_on with
  | empty => simp
  | insert a S ha ih => rw [Finset.sum_insert ha, Finset.sum_insert ha, EReal.coe_add, ih]

/-- A maximum of real numbers is the same over the extended reals. -/
theorem coe_max (x y : ℝ) : ((max x y : ℝ) : EReal) = max (x : EReal) y := (EReal.coe_strictMono.monotone.map_max)
/-- A minimum of real numbers is the same over the extended reals. -/
theorem coe_min (x y : ℝ) : ((min x y : ℝ) : EReal) = min (x : EReal) y := (EReal.coe_strictMono.monotone.map_min)

/-- A code: the entry over the scale, clipped to the format's range. -/
def code (s x : ℝ) : ℝ := min 448 (max (-448) (x * (1 / s)))
/-- The inverse norm of a row. -/
def rnorm (x : Fin 128 → ℝ) : ℝ := (Real.sqrt (∑ d, x d * x d + eps))⁻¹

/-- The reciprocal square root of a row's sum of squares is its inverse norm. -/
theorem rsqrt_row (x : Fin 128 → ℝ) :
    Ideal.rsqrt (((∑ d, x d * x d + eps : ℝ)) : EReal) = ((rnorm x : ℝ) : EReal) := by
  have h : 0 < ∑ d, x d * x d + eps := add_pos_of_nonneg_of_pos (Finset.sum_nonneg fun d _ => mul_self_nonneg _) eps_pos
  rw [Ideal.rsqrt_coe, if_neg (not_lt.2 h.le), if_neg h.ne']
  rfl

/-- One over the square root of a row's sum of squares is its inverse norm. -/
theorem div_sqrt_row (x : Fin 128 → ℝ) :
    Ideal.div 1 (Ideal.sqrt (((∑ d, x d * x d + eps : ℝ)) : EReal)) = ((rnorm x : ℝ) : EReal) := by
  have h : 0 < ∑ d, x d * x d + eps := add_pos_of_nonneg_of_pos (Finset.sum_nonneg fun d _ => mul_self_nonneg _) eps_pos
  have hs := Real.sqrt_pos.2 h
  rw [Ideal.sqrt_coe, if_neg (not_lt.2 h.le), Ideal.div, if_neg (by exact_mod_cast hs.ne'), one_mul, rnorm, EReal.coe_inv]

/-- The data of one chunk of one value head: key and query codes, their scales and inverse norms, the running sum of the
    gates, the betas, the values and the state before the chunk. -/
structure Data where
  kc : Fin 64 → Fin 128 → ℝ
  qc : Fin 64 → Fin 128 → ℝ
  sk : ℝ
  sq : ℝ
  rk : Fin 64 → ℝ
  rq : Fin 64 → ℝ
  G : Fin 64 → ℝ
  b : Fin 64 → ℝ
  v : Fin 64 → Fin 256 → ℝ
  S : Fin 128 → Fin 256 → ℝ

namespace Data

variable (c : Data)

/-- Products of key codes. -/
def KK (i j : Fin 64) : ℝ := ∑ d, c.kc i d * c.kc j d
/-- Products of query codes with key codes. -/
def QK (i j : Fin 64) : ℝ := ∑ d, c.qc i d * c.kc j d
/-- The normalised keys. -/
def kn (i : Fin 64) (d : Fin 128) : ℝ := c.kc i d * c.sk * c.rk i
/-- The decay from position `j` to position `i` of the chunk. -/
def E (i j : Fin 64) : ℝ := if j ≤ i then Real.exp (c.G i - c.G j) else 0
/-- The strictly lower triangular matrix of the chunk. -/
def A : Matrix (Fin 64) (Fin 64) ℝ := Matrix.of fun i j =>
  if j < i then c.b i * (c.KK i j * (c.sk * c.sk) * c.rk i * c.rk j) * c.E i j else 0
/-- The inverse of one plus that matrix. -/
def T : Matrix (Fin 64) (Fin 64) ℝ := (1 + c.A)⁻¹
/-- What the corrected values solve for. -/
def rhs (j : Fin 64) (w : Fin 256) : ℝ := c.b j * c.v j w - c.b j * Real.exp (c.G j) * ∑ d, c.kn j d * c.S d w
/-- The corrected values. -/
def vnew (i : Fin 64) (w : Fin 256) : ℝ := ∑ j, c.T i j * c.rhs j w
/-- The chunk's outputs. -/
def out (i : Fin 64) (w : Fin 256) : ℝ :=
  ∑ d, Real.exp (c.G i) * (c.qc i d * c.sq * c.rq i * root) * c.S d w
    + ∑ j, c.QK i j * (c.sq * c.sk) * c.rq i * c.rk j * root * c.E i j * c.vnew j w
/-- The state after the chunk. -/
def next (d : Fin 128) (w : Fin 256) : ℝ :=
  Real.exp (c.G 63) * c.S d w + ∑ i, Real.exp (c.G 63 - c.G i) * c.kn i d * c.vnew i w

/-- The chunk's matrix is strictly lower triangular. -/
theorem A_strict : Linear.StrictLower c.A := fun i j h => by
  rw [Data.A, Matrix.of_apply, if_neg (by rw [Fin.lt_def]; omega)]

/-- The inverse is a left inverse. -/
theorem T_mul : c.T * (1 + c.A) = 1 := by
  have h := Linear.doubling_inverse c.A_strict rfl rfl rfl rfl rfl rfl rfl rfl rfl rfl rfl
  rw [T, Matrix.inv_eq_left_inv h]
  exact h

/-- Any left inverse is the inverse. -/
theorem eq_T {T : Matrix (Fin 64) (Fin 64) ℝ} (h : T * (1 + c.A) = 1) : T = c.T :=
  (Matrix.inv_eq_left_inv h).symm

end Data

end Cert.Chunk
-- ==== Proof.Args.lean ====
/- The argument arrays and what the results should hold, chunk after chunk, over the real numbers. -/
module

public import proofs.«01_k».proof.Proof.Spec

@[expose] public section

noncomputable section

namespace Cert.Chunk

open Idealize.ShloMosaic

/-- The arguments: queries, keys, values, gates, betas and the initial state. -/
structure Args where
  q : Fin 3 → Fin 512 → Fin 10 → Fin 128 → EReal
  k : Fin 3 → Fin 512 → Fin 10 → Fin 128 → EReal
  v : Fin 3 → Fin 512 → Fin 20 → Fin 256 → EReal
  g : Fin 3 → Fin 512 → Fin 20 → EReal
  beta : Fin 3 → Fin 512 → Fin 20 → EReal
  s : Fin 3 → Fin 20 → Fin 128 → Fin 256 → EReal

/-- Position `i` of chunk `n`. -/
abbrev tok (n : Fin 8) (i : Fin 64) : Fin 512 := ⟨64 * n.val + i.val, by omega⟩
/-- The key head a value head reads. -/
abbrev keyHead (h : Fin 20) : Fin 10 := ⟨h.val / 2, by omega⟩

/-- The magnitude of an extended real. -/
abbrev mag (x : EReal) : EReal := max x (-x)

/-- The largest magnitude in a chunk of a key head. -/
def amax (x : Fin 3 → Fin 512 → Fin 10 → Fin 128 → EReal) (b : Fin 3) (n : Fin 8) (kh : Fin 10) : EReal :=
  Finset.univ.sup fun i : Fin 64 => Finset.univ.sup fun d : Fin 128 => mag (x b (tok n i) kh d)

/-- The arguments are real numbers, queries and keys within the range of bfloat16. -/
structure Args.Real (a : Args) : Prop where
  q : ∀ b s kh d, ∃ r : ℝ, a.q b s kh d = (r : EReal) ∧ |r| ≤ 2 ^ 128
  k : ∀ b s kh d, ∃ r : ℝ, a.k b s kh d = (r : EReal) ∧ |r| ≤ 2 ^ 128
  v : ∀ b s h w, ∃ r : ℝ, a.v b s h w = (r : EReal)
  g : ∀ b s h, ∃ r : ℝ, a.g b s h = (r : EReal)
  beta : ∀ b s h, ∃ r : ℝ, a.beta b s h = (r : EReal)
  s : ∀ b h d w, ∃ r : ℝ, a.s b h d w = (r : EReal)

/-- An extended real that is a real number is its own real part. -/
theorem coe_toReal_of {x : EReal} (h : ∃ r : ℝ, x = (r : EReal)) : ((x.toReal : ℝ) : EReal) = x := by
  obtain ⟨r, rfl⟩ := h; rfl

/-- The largest magnitude of a chunk is in the range of bfloat16. -/
theorem amax_bounded (x : Fin 3 → Fin 512 → Fin 10 → Fin 128 → EReal)
    (h : ∀ b s kh d, ∃ r : ℝ, x b s kh d = (r : EReal) ∧ |r| ≤ 2 ^ 128) (b : Fin 3) (n : Fin 8) (kh : Fin 10) :
    Quant.Bounded (amax x b n kh) := by
  have hm : ∀ s d, 0 ≤ mag (x b s kh d) ∧ mag (x b s kh d) ≤ ((2 ^ 128 : ℝ) : EReal) := fun s d => by
    obtain ⟨r, e, hr⟩ := h b s kh d
    rw [mag, e, ← EReal.coe_neg, ← coe_max]
    exact ⟨by exact_mod_cast abs_nonneg r, by exact_mod_cast hr⟩
  constructor
  · refine (hm (tok n 0) 0).1.trans ?_
    exact (Finset.le_sup (f := fun d : Fin 128 => mag (x b (tok n 0) kh d)) (Finset.mem_univ 0)).trans
      (Finset.le_sup (f := fun i : Fin 64 => Finset.univ.sup fun d : Fin 128 => mag (x b (tok n i) kh d)) (Finset.mem_univ 0))
  · exact Finset.sup_le fun i _ => Finset.sup_le fun d _ => (hm _ _).2

namespace Args

variable (a : Args)

/-- The scale of a chunk of a key head. -/
def scale (x : Fin 3 → Fin 512 → Fin 10 → Fin 128 → EReal) (b : Fin 3) (n : Fin 8) (kh : Fin 10) : ℝ := Quant.qscale (amax x b n kh)
/-- The code of an entry. -/
def codes (x : Fin 3 → Fin 512 → Fin 10 → Fin 128 → EReal) (b : Fin 3) (n : Fin 8) (i : Fin 64) (kh : Fin 10) (d : Fin 128) : ℝ :=
  code (scale x b n kh) (x b (tok n i) kh d).toReal
/-- The inverse norm of a key or query. -/
def norm (x : Fin 3 → Fin 512 → Fin 10 → Fin 128 → EReal) (b : Fin 3) (n : Fin 8) (i : Fin 64) (kh : Fin 10) : ℝ :=
  rnorm fun d => (x b (tok n i) kh d).toReal
/-- The running sum of the gates within a chunk. -/
def gates (b : Fin 3) (n : Fin 8) (h : Fin 20) (i : Fin 64) : ℝ := ∑ j : Fin 64, if j ≤ i then (a.g b (tok n j) h).toReal else 0

/-- The data of chunk `n` of a value head that starts from the state `S`. -/
def chunk (b : Fin 3) (h : Fin 20) (n : Fin 8) (S : Fin 128 → Fin 256 → ℝ) : Data where
  kc i d := codes a.k b n i (keyHead h) d
  qc i d := codes a.q b n i (keyHead h) d
  sk := scale a.k b n (keyHead h)
  sq := scale a.q b n (keyHead h)
  rk i := norm a.k b n i (keyHead h)
  rq i := norm a.q b n i (keyHead h)
  G i := a.gates b n h i
  b i := (a.beta b (tok n i) h).toReal
  v i w := (a.v b (tok n i) h w).toReal
  S := S

/-- The state before chunk `n`. -/
def stateAt (b : Fin 3) (h : Fin 20) : ℕ → Fin 128 → Fin 256 → ℝ
  | 0 => fun d w => (a.s b h d w).toReal
  | n + 1 => if hn : n < 8 then (a.chunk b h ⟨n, hn⟩ (stateAt b h n)).next else stateAt b h n

/-- Before the first chunk the state is the initial one. -/
theorem stateAt_zero (b : Fin 3) (h : Fin 20) : a.stateAt b h 0 = fun d w => (a.s b h d w).toReal := rfl

/-- The state after a chunk is that chunk's next state. -/
theorem stateAt_succ (b : Fin 3) (h : Fin 20) (n : Fin 8) :
    a.stateAt b h (n.val + 1) = (a.chunk b h n (a.stateAt b h n.val)).next := by
  rw [stateAt, dif_pos n.isLt]

/-- The output at position `i` of chunk `n`. -/
def out (b : Fin 3) (n : Fin 8) (i : Fin 64) (h : Fin 20) (w : Fin 256) : ℝ :=
  (a.chunk b h n (a.stateAt b h n.val)).out i w

end Args

end Cert.Chunk
-- ==== Proof.Entry.lean ====
/- The kernel's blocks as entries of the argument arrays: batch entry `t / 8` and chunk `t % 8` of grid point `t`. -/
module

public import proofs.«01_k».proof.Proof.Blocks
public import proofs.«01_k».proof.Proof.Args
public import Idealize.ShloMosaic.Lib.Pipeline.ValueKit

@[expose] public section

set_option maxRecDepth 16384

noncomputable section

namespace Cert.KernelIdeal.Head

open Cert.KernelIdeal Cert.KernelIdeal.Gen Idealize.ShloMosaic Idealize.ShloMosaic.TcCoe Idealize.SL.Sem Cert.Chunk

variable (m : (ℓ : Loc nD τ sig) → Buf (Elt Ideal) ℓ) (c : Dev nD)

/-- The batch entry of a grid point. -/
abbrev bt (t : Fin cfg0.N) : Fin 3 := ⟨t.val / 8, by have : t.val < 24 := t.isLt; omega⟩
/-- The chunk of a grid point. -/
abbrev nt (t : Fin cfg0.N) : Fin 8 := ⟨t.val % 8, by omega⟩

/-- The arguments a device holds. -/
def args : Args where
  q b s kh d := m ((c : Thread nD τ).loc main_arg0) (ix4 b s kh d)
  k b s kh d := m ((c : Thread nD τ).loc main_arg1) (ix4 b s kh d)
  v b s h w := m ((c : Thread nD τ).loc main_arg2) (ix4 b s h w)
  g b s h := m ((c : Thread nD τ).loc main_arg3) (ix3 b s h)
  beta b s h := m ((c : Thread nD τ).loc main_arg4) (ix3 b s h)
  s b h d w := m ((c : Thread nD τ).loc main_arg5) (ix4 b h d w)

/-- Which block of its array window 0 reads at a grid point. -/
theorem idx0 : ∀ t : Fin cfg0.N, win0_0.index t = ![t.val / 8, 0, t.val % 8, 0] := (by decide +kernel : ∀ t : Fin grid0.N, _)
/-- Which block of its array window 1 reads at a grid point. -/
theorem idx1 : ∀ t : Fin cfg0.N, win0_1.index t = ![t.val / 8, 0, t.val % 8, 0] := (by decide +kernel : ∀ t : Fin grid0.N, _)
/-- Which block of its array window 2 reads at a grid point. -/
theorem idx2 : ∀ t : Fin cfg0.N, win0_2.index t = ![t.val / 8, 0, t.val % 8, 0] := (by decide +kernel : ∀ t : Fin grid0.N, _)
/-- Which block of its array window 3 reads at a grid point. -/
theorem idx3 : ∀ t : Fin cfg0.N, win0_3.index t = ![t.val / 8, 0, 0] := (by decide +kernel : ∀ t : Fin grid0.N, _)
/-- Which block of its array window 4 reads at a grid point. -/
theorem idx4 : ∀ t : Fin cfg0.N, win0_4.index t = ![t.val / 8, 0, 0] := (by decide +kernel : ∀ t : Fin grid0.N, _)
/-- Which block of its array window 5 reads at a grid point. -/
theorem idx5 : ∀ t : Fin cfg0.N, win0_5.index t = ![t.val / 8, 0, 0, 0] := (by decide +kernel : ∀ t : Fin grid0.N, _)

/-- The second grid coordinate is the chunk. -/
theorem coord1 : ∀ t : Fin cfg0.N, (grid0.coords t 1).val = t.val % 8 := (by decide +kernel : ∀ t : Fin grid0.N, _)

/-- The queries with heads before positions. -/
theorem entry_v0 : V m c main_v0 = transpose S3x10x512x128 [0, 2, 1, 3] (m ((c : Thread nD τ).loc main_arg0)) transposes_S3x512x10x128_S3x10x512x128_0_2_1_3 := by
  show StableHlo.after hostOps0 (fun b => m (c, b)) _ = _
  entry_read
  rfl
/-- The queries of a grid point. -/
theorem queries_read (t : Fin cfg0.N) (h : Fin 10) (i : Fin 64) (d : Fin 128) :
    iblk m c 0 t (ix4 0 h i d) = (args m c).q (bt t) (tok (nt t) i) h d := by
  have e : ∀ y : S3x10x512x128.Idx, V m c main_v0 y = m ((c : Thread nD τ).loc main_arg0) (ix4 (y 0) (y 2) (y 1) (y 3)) := by
    intro y
    rw [entry_v0]
    pointwise
  blk_simp [iblk]
  rw [e]
  unfold args
  blk_ext [idx0 t]
/-- The keys with heads before positions. -/
theorem entry_v1 : V m c main_v1 = transpose S3x10x512x128 [0, 2, 1, 3] (m ((c : Thread nD τ).loc main_arg1)) transposes_S3x512x10x128_S3x10x512x128_0_2_1_3 := by
  show StableHlo.after hostOps0 (fun b => m (c, b)) _ = _
  entry_read
  rfl
/-- The keys of a grid point. -/
theorem keys_read (t : Fin cfg0.N) (h : Fin 10) (i : Fin 64) (d : Fin 128) :
    iblk m c 1 t (ix4 0 h i d) = (args m c).k (bt t) (tok (nt t) i) h d := by
  have e : ∀ y : S3x10x512x128.Idx, V m c main_v1 y = m ((c : Thread nD τ).loc main_arg1) (ix4 (y 0) (y 2) (y 1) (y 3)) := by
    intro y
    rw [entry_v1]
    pointwise
  blk_simp [iblk]
  rw [e]
  unfold args
  blk_ext [idx1 t]
/-- The values with heads before positions. -/
theorem entry_v2 : V m c main_v2 = transpose S3x20x512x256 [0, 2, 1, 3] (m ((c : Thread nD τ).loc main_arg2)) transposes_S3x512x20x256_S3x20x512x256_0_2_1_3 := by
  show StableHlo.after hostOps0 (fun b => m (c, b)) _ = _
  entry_read
  rfl
/-- The values of a grid point. -/
theorem values_read (t : Fin cfg0.N) (h : Fin 20) (i : Fin 64) (d : Fin 256) :
    iblk m c 2 t (ix4 0 h i d) = (args m c).v (bt t) (tok (nt t) i) h d := by
  have e : ∀ y : S3x20x512x256.Idx, V m c main_v2 y = m ((c : Thread nD τ).loc main_arg2) (ix4 (y 0) (y 2) (y 1) (y 3)) := by
    intro y
    rw [entry_v2]
    pointwise
  blk_simp [iblk]
  rw [e]
  unfold args
  blk_ext [idx2 t]
/-- The gates with heads before positions. -/
theorem entry_v3 : V m c main_v3 = transpose S3x20x512 [0, 2, 1] (m ((c : Thread nD τ).loc main_arg3)) transposes_S3x512x20_S3x20x512_0_2_1 := by
  show StableHlo.after hostOps0 (fun b => m (c, b)) _ = _
  entry_read
  rfl
/-- The gates of a batch entry. -/
theorem gates_read (t : Fin cfg0.N) (h : Fin 20) (s : Fin 512) :
    iblk m c 3 t (ix3 0 h s) = (args m c).g (bt t) s h := by
  have e : ∀ y : S3x20x512.Idx, V m c main_v3 y = m ((c : Thread nD τ).loc main_arg3) (ix3 (y 0) (y 2) (y 1)) := by
    intro y
    rw [entry_v3]
    pointwise
  blk_simp [iblk]
  rw [e]
  unfold args
  blk_ext [idx3 t]
/-- The betas with heads before positions. -/
theorem entry_v4 : V m c main_v4 = transpose S3x20x512 [0, 2, 1] (m ((c : Thread nD τ).loc main_arg4)) transposes_S3x512x20_S3x20x512_0_2_1 := by
  show StableHlo.after hostOps0 (fun b => m (c, b)) _ = _
  entry_read
  rfl
/-- The betas of a batch entry. -/
theorem betas_read (t : Fin cfg0.N) (h : Fin 20) (s : Fin 512) :
    iblk m c 4 t (ix3 0 h s) = (args m c).beta (bt t) s h := by
  have e : ∀ y : S3x20x512.Idx, V m c main_v4 y = m ((c : Thread nD τ).loc main_arg4) (ix3 (y 0) (y 2) (y 1)) := by
    intro y
    rw [entry_v4]
    pointwise
  blk_simp [iblk]
  rw [e]
  unfold args
  blk_ext [idx4 t]
/-- The initial states of a batch entry. -/
theorem state_read (t : Fin cfg0.N) (h : Fin 20) (d : Fin 128) (w : Fin 256) :
    iblk m c 5 t (ix4 0 h d w) = (args m c).s (bt t) h d w := by
  unfold args
  dsimp only
  blk_point [iblk, V, idx5 t]
/-- An entry of the chunk's rows of a scratch array. -/
theorem cut_chunk (t : Fin cfg0.N) (X : Vec Ideal S512x20 .f32) (i : Fin 64) (h : Fin 20) :
    cut X (rChunk (grid0.coords t)) (ix2 i h) = X (ix2 (tok (nt t) i) h) := by
  refine congrArg X (funext fun a => Fin.ext ?_)
  show k0_off1 (grid0.coords t) a + 1 * (ix2 i h a).val = _
  rw [k0_off1_eq, coord1]
  match a with
  | ⟨0, _⟩ => show 64 * (t.val % 8) + 1 * i.val = 64 * (t.val % 8) + i.val; omega
  | ⟨1, _⟩ => show 0 + 1 * h.val = h.val; omega
/-- An entry of one key head of a block. -/
theorem cut_key (h : Fin 10) (X : Vec Ideal S1x10x64x128 .bf16) (i : Fin 64) (d : Fin 128) :
    cut X (rKey h) (ix4 0 0 i d) = X (ix4 0 h i d) := by
  refine congrArg X (funext fun a => Fin.ext ?_)
  match a with
  | ⟨0, _⟩ => rfl
  | ⟨1, _⟩ => rfl
  | ⟨2, _⟩ => show 0 + 1 * i.val = i.val; omega
  | ⟨3, _⟩ => show 0 + 1 * d.val = d.val; omega
/-- An entry of one value head of a block of values. -/
theorem cut_val (h : Fin 20) (X : Vec Ideal S1x20x64x256 .bf16) (i : Fin 64) (w : Fin 256) :
    cut X (rVal h) (ix4 0 0 i w) = X (ix4 0 h i w) := by
  refine congrArg X (funext fun a => Fin.ext ?_)
  match a with
  | ⟨0, _⟩ => rfl
  | ⟨1, _⟩ => rfl
  | ⟨2, _⟩ => show 0 + 1 * i.val = i.val; omega
  | ⟨3, _⟩ => show 0 + 1 * w.val = w.val; omega
/-- An entry of one value head of a block of states. -/
theorem cut_state (h : Fin 20) (X : Vec Ideal S1x20x128x256 .f32) (d : Fin 128) (w : Fin 256) :
    cut X (rState h) (ix4 0 0 d w) = X (ix4 0 h d w) := by
  refine congrArg X (funext fun a => Fin.ext ?_)
  match a with
  | ⟨0, _⟩ => rfl
  | ⟨1, _⟩ => rfl
  | ⟨2, _⟩ => show 0 + 1 * d.val = d.val; omega
  | ⟨3, _⟩ => show 0 + 1 * w.val = w.val; omega
/-- An entry of a transposed block of gates or betas. -/
theorem scratch_read (X : Vec Ideal S1x20x512 .f32) (s : Fin 512) (h : Fin 20) :
    k0_pay6 X (ix2 s h) = X (ix3 0 h s) := by
  pointwise [k0_pay6]

end Cert.KernelIdeal.Head

end
-- ==== Proof.HeadValue.lean ====
/- One value head of the chunked kernel over the extended reals: when what the body loads is real, the corrected values, the
   output and the new state are the real chunk's. -/
module

public import proofs.«01_k».proof.Proof.Head
public import proofs.«01_k».proof.Proof.Spec
public import proofs.«01_k».proof.Proof.Linear
public import Idealize.ShloMosaic.Lib.Pipeline.ValueKit

@[expose] public section

set_option maxRecDepth 16384

noncomputable section

namespace Cert.KernelIdeal.Head

open Cert.KernelIdeal Cert.KernelIdeal.Gen Idealize.ShloMosaic Idealize.SL.Sem Cert.Chunk Cert.Linear

/-! ### The words -/

/-- Comparing two positions as words, at least. -/
theorem sge_word : ∀ i j : Fin 64, IntOp.cmpi .sge (BitVec.ofNat 32 i.val) (BitVec.ofNat 32 j.val) = if j ≤ i then 1#1 else 0#1 := by
  decide +kernel
/-- Comparing two positions as words, greater. -/
theorem sgt_word : ∀ i j : Fin 64, IntOp.cmpi .sgt (BitVec.ofNat 32 i.val) (BitVec.ofNat 32 j.val) = if j < i then 1#1 else 0#1 := by
  decide +kernel

/-- Selecting by the bit of a proposition is a case distinction. -/
theorem select_ite {α : Type} (P : Prop) [Decidable P] (x y : α) :
    Scalar.select (if P then 1#1 else 0#1) x y = if P then x else y := by
  split <;> rfl

/-- The lane at which the block of a lane begins. -/
theorem base_word : ∀ l : Fin 128, k0_pay13 k0_pay10 k0_pay11 k0_pay12 (ix2 0 l) = BitVec.ofNat 32 (32 * (l.val / 32)) := by
  decide +kernel

/-- The word from which a lane of column `j` is read. -/
theorem lane_word (j : ℕ) (i : Fin 32) (l : Fin 128) :
    lane j (ix2 i l) = BitVec.ofNat 32 (32 * (l.val / 32) + j) := by
  pointwise [lane, base_word]
  exact (BitVec.ofNat_add _ _).symm

/-- The lane from which column `j` of a lane's own block is read. -/
theorem lane_index (j : Fin 32) (l : Fin 128) :
    (Scalar.select (IntOp.cmpi .slt (BitVec.ofNat 32 (32 * (l.val / 32) + j.val)) 0#32)
      (IntOp.addi (BitVec.ofNat 32 (32 * (l.val / 32) + j.val)) 128#32)
      (BitVec.ofNat 32 (32 * (l.val / 32) + j.val))).toNat % 128 = 32 * (l.val / 32) + j.val := by
  revert j l; decide +kernel

/-- Which half block a lane belongs to. -/
theorem half_word : ∀ l : Fin 128,
    IntOp.cmpi .eq (Scalar.select (k0_pay49 (iota .tc S1x128 32 [1] iota_S1x128_d1_w32) (ix2 0 l))
      (k0_pay50 (iota .tc S1x128 32 [1] iota_S1x128_d1_w32) (ix2 0 l))
      (k0_pay48 (iota .tc S1x128 32 [1] iota_S1x128_d1_w32) (ix2 0 l))) 0#32
      = if l.val / 32 % 2 = 0 then 1#1 else 0#1 := by
  decide +kernel

/-! ### The elimination -/

/-- An entry of the four identities. -/
theorem ident_apply (i : Fin 32) (l : Fin 128) : ident (F := Ideal) (ix2 i l) = if i.val = l.val % 32 then 1 else 0 := by
  pointwise [ident]
  refine (congrArg (fun c => Scalar.select c (1 : EReal) 0) (?_ : _ = if i.val = l.val % 32 then 1#1 else 0#1)).trans
    (select_ite _ _ _)
  revert i l; decide +kernel

/-- An entry of the four packed diagonal blocks. -/
theorem packed_apply (A0 A1 : FVec Ideal S64x64 .f32) (i : Fin 32) (l : Fin 128) :
    packed A0 A1 (ix2 i l)
      = (if l.val < 64 then A0 else A1) (ix2 ⟨32 * (l.val / 32 % 2) + i.val, by omega⟩ ⟨l.val % 64, by omega⟩) := by
  pointwise [packed, k0_pay51]
  rw [half_word, select_ite]
  have hl := l.isLt
  by_cases h : l.val < 64
  · by_cases h2 : l.val / 32 % 2 = 0
    · simp only [h, h2, dif_pos, if_true]; congr 2 <;> apply Fin.ext <;> simp <;> omega
    · have : l.val / 32 % 2 = 1 := by omega
      simp only [h, this, dif_pos, if_true]; simp; congr 2; apply Fin.ext; simp; omega
  · by_cases h2 : l.val / 32 % 2 = 0
    · simp only [h, h2, dif_neg, if_true, not_false_eq_true, if_false]; congr 2 <;> apply Fin.ext <;> simp <;> omega
    · have : l.val / 32 % 2 = 1 := by omega
      simp only [h, this, dif_neg, not_false_eq_true, if_false]; simp; congr 2; apply Fin.ext; simp; omega

/-- An entry after one column elimination. -/
theorem step_apply (C T : FVec Ideal S32x128 .f32) (j : ℕ) (hj : j + 1 ≤ 31) (i : Fin 32) (l : Fin 128) :
    step C T j hj (ix2 i l)
      = T (ix2 i l) - C (ix2 i ⟨32 * (l.val / 32) + j, by omega⟩) * T (ix2 ⟨j, by omega⟩ l) := by
  pointwise [step, lane_word]
  have h : ∀ a b : Fin 128, a = b → C (ix2 i a) = C (ix2 i b) := fun a b e => by rw [e]
  rw [h _ ⟨32 * (l.val / 32) + j, by omega⟩ (Fin.ext (lane_index ⟨j, by omega⟩ l))]

/-- The columns of a lane block of the packed matrices. -/
abbrev blk (c : Fin 32 → Fin 128 → ℝ) (β : Fin 4) : Matrix (Fin 32) (Fin 32) ℝ :=
  Matrix.of fun i j => c i ⟨32 * β.val + j.val, by omega⟩

/-- The first `n` steps eliminate the first `n` columns of each of the four blocks. -/
theorem steps_value (C : FVec Ideal S32x128 .f32) (c : Fin 32 → Fin 128 → ℝ) (hC : ∀ i l, C (ix2 i l) = ((c i l : ℝ) : EReal))
    (β : Fin 4) (hA : StrictLower (blk c β)) (n : ℕ) (h : n ≤ 31) :
    ∃ T, Eliminated (blk c β) T n
      ∧ ∀ i j : Fin 32, steps C n h (ix2 i ⟨32 * β.val + j.val, by omega⟩) = ((T i j : ℝ) : EReal) := by
  induction n with
  | zero =>
    refine ⟨1, Eliminated.zero _, fun i j => ?_⟩
    show ident (F := Ideal) _ = _
    rw [ident_apply, Matrix.one_apply]
    have : (i.val = (32 * β.val + j.val) % 32) ↔ i = j := by rw [Fin.ext_iff]; omega
    by_cases e : i = j
    · rw [if_pos (this.2 e), if_pos e]; rfl
    · rw [if_neg (fun q => e (this.1 q)), if_neg e]; rfl
  | succ n ih =>
    obtain ⟨T, hT, hv⟩ := ih (by omega)
    refine ⟨_, hT.succ hA (by omega), fun i j => ?_⟩
    show step C (steps C n _) n h _ = _
    rw [step_apply, hv i j, hv ⟨n, by omega⟩ j, hC]
    simp only [Matrix.of_apply]
    rw [EReal.coe_sub, EReal.coe_mul]
    congr 3
    congr 1
    apply Fin.ext
    show 32 * ((32 * β.val + j.val) / 32) + n = 32 * β.val + n
    omega

/-! ### The matrices -/

/-- The kernel's strictly lower triangular matrix: row `i` scaled by the square of the inverse norm of key `i`. -/
def rowScaled (c : Data) : Matrix (Fin 64) (Fin 64) ℝ := Matrix.of fun i j =>
  if j < i then c.b i * ((c.rk i * c.sk) * (c.rk i * c.sk)) * (c.KK i j * c.E i j) else 0

/-- The kernel's matrix is strictly lower triangular. -/
theorem rowScaled_strict (c : Data) : StrictLower (rowScaled c) := fun i j h => by
  rw [rowScaled, Matrix.of_apply, if_neg (by rw [Fin.lt_def]; omega)]

/-- What the body loads for a key head's value heads is the real data. -/
structure Loads (g b : Vec Ideal S64x20 .f32) (q k : Vec Ideal S1x1x64x128 .bf16) (h : Fin 20) (c : Data) : Prop where
  kc : ∀ i d, codes (F := Ideal) k (ix2 i d) = ((c.kc i d : ℝ) : EReal)
  qc : ∀ i d, codes (F := Ideal) q (ix2 i d) = ((c.qc i d : ℝ) : EReal)
  sk : scale (F := Ideal) k (ix2 0 0) = ((c.sk : ℝ) : EReal)
  sq : scale (F := Ideal) q (ix2 0 0) = ((c.sq : ℝ) : EReal)
  rk : ∀ i, rnorm (F := Ideal) k (ix2 i 0) = ((c.rk i : ℝ) : EReal)
  rq : ∀ i, rnorm (F := Ideal) q (ix2 i 0) = ((c.rq i : ℝ) : EReal)
  G : ∀ i, k0_pay8 (F := Ideal) g (ix2 i h) = ((c.G i : ℝ) : EReal)
  b : ∀ i, b (ix2 i h) = ((c.b i : ℝ) : EReal)

section

variable {g b : Vec Ideal S64x20 .f32} {q k : Vec Ideal S1x1x64x128 .bf16} {h : Fin 20} {c : Data}

/-- The products of key codes the body computes. -/
theorem Loads.kk (L : Loads g b q k h c) (i j : Fin 64) : kk (F := Ideal) k (ix2 i j) = ((c.KK i j : ℝ) : EReal) := by
  pointwise [Head.kk, k0_pay35]
  simp only [L.kc, Data.KK, coe_sum, EReal.coe_mul]

/-- The products of query codes with key codes the body computes. -/
theorem Loads.qk (L : Loads g b q k h c) (i j : Fin 64) : qk (F := Ideal) q k (ix2 i j) = ((c.QK i j : ℝ) : EReal) := by
  pointwise [Head.qk, k0_pay36]
  simp only [L.kc, L.qc, Data.QK, coe_sum, EReal.coe_mul]

/-- Scale times inverse norm of the keys. -/
theorem Loads.rks (L : Loads g b q k h c) (i : Fin 64) : rks (F := Ideal) k (ix2 i 0) = ((c.rk i * c.sk : ℝ) : EReal) := by
  pointwise [Head.rks, k0_pay37]
  simp only [L.rk, L.sk, EReal.coe_mul]

/-- Scale times inverse norm of the queries times the reciprocal square root of 128. -/
theorem Loads.rqs (L : Loads g b q k h c) (i : Fin 64) :
    rqs (F := Ideal) q (ix2 i 0) = ((c.rq i * c.sq * root : ℝ) : EReal) := by
  pointwise [Head.rqs, k0_pay38]
  simp only [L.rq, L.sq, root_coe, EReal.coe_mul]

/-- The exponential of the running sum of the gates. -/
theorem Loads.gate (L : Loads g b q k h c) (i : Fin 64) :
    gate (F := Ideal) g h (ix2 i 0) = ((Real.exp (c.G i) : ℝ) : EReal) := by
  pointwise [Head.gate]
  rw [L.G, Ideal.exp_coe]

/-- The decays the body computes. -/
theorem Loads.decay (L : Loads g b q k h c) (i j : Fin 64) : decay (F := Ideal) g h (ix2 i j) = ((c.E i j : ℝ) : EReal) := by
  pointwise [Head.decay, k0_pay9, incl, k0_pay14]
  rw [sge_word, select_ite, select_ite, L.G, L.G, Data.E]
  by_cases e : j ≤ i
  · rw [if_pos e, if_pos e, if_pos e, ← EReal.coe_sub, Ideal.exp_coe]
  · rw [if_neg e, if_neg e]; rfl

/-- The matrix the body computes is the chunk's, scaled by rows. -/
theorem Loads.tri (L : Loads g b q k h c) (i j : Fin 64) :
    tri (F := Ideal) g b k h (ix2 i j) = ((rowScaled c i j : ℝ) : EReal) := by
  pointwise [Head.tri, strict, k0_pay15]
  rw [sgt_word, select_ite, L.b, L.rks, L.kk, L.decay, rowScaled, Matrix.of_apply]
  by_cases e : j < i
  · rw [if_pos e, if_pos e]; simp only [EReal.coe_mul]
  · rw [if_neg e, if_neg e]; rfl

end

/-- The lower half of a position. -/
abbrev lo (i : Fin 32) : Fin 64 := ⟨i.val, by omega⟩
/-- The upper half of a position. -/
abbrev hi (i : Fin 32) : Fin 64 := ⟨32 + i.val, by omega⟩

/-- The lower half of the positions in a sum of two halves. -/
theorem lo_eq (i : Fin 32) : (finSumFinEquiv (m := 32) (n := 32) (Sum.inl i) : Fin 64) = lo i := rfl
/-- The upper half of the positions in a sum of two halves. -/
theorem hi_eq (i : Fin 32) : (finSumFinEquiv (m := 32) (n := 32) (Sum.inr i) : Fin 64) = hi i := rfl

/-- Blocks of an inverse of `1 + A` make one. -/
theorem whole_inverse (A : Matrix (Fin 64) (Fin 64) ℝ) (hA : StrictLower A) (T1 T2 : Matrix (Fin 32) (Fin 32) ℝ)
    (h1 : T1 * (1 + Matrix.of fun i j => A (lo i) (lo j)) = 1) (h2 : T2 * (1 + Matrix.of fun i j => A (hi i) (hi j)) = 1) :
    (Matrix.fromBlocks T1 0 (-(T2 * ((Matrix.of fun i j => A (hi i) (lo j)) * T1))) T2).submatrix
        (finSumFinEquiv (m := 32) (n := 32)).symm (finSumFinEquiv (m := 32) (n := 32)).symm * (1 + A) = 1 := by
  let e := finSumFinEquiv (m := 32) (n := 32)
  have hb := block_inverse (A.submatrix e e) T1 T2 _ (by
    ext i j
    show A (lo i) (hi j) = 0
    exact hA _ _ (by show i.val ≤ 32 + j.val; omega)) h1 h2 rfl
  have h3 : (1 + A : Matrix (Fin 64) (Fin 64) ℝ) = (1 + A.submatrix e e).submatrix e.symm e.symm := by
    ext i j
    simp [Matrix.one_apply]
  rw [h3]
  refine (Matrix.submatrix_mul_equiv _ _ _ e.symm _).trans ?_
  rw [show Matrix.fromBlocks T1 0 (-(T2 * ((Matrix.of fun i j => A (hi i) (lo j)) * T1))) T2 * (1 + A.submatrix e e) = 1 from hb]
  exact Matrix.submatrix_one_equiv _

/-- The inverse the kernel multiplies by is the real inverse. -/
theorem inverse_value (g b : Vec Ideal S64x20 .f32) (q k : Vec Ideal S1x1x64x128 .bf16) (kh : Fin 10) (c : Fin 2 → Data)
    (L : ∀ r, Loads g b q k (hd kh r) (c r)) (r : Fin 2) :
    ∃ T' : Matrix (Fin 64) (Fin 64) ℝ, T' * (1 + rowScaled (c r)) = 1
      ∧ ∀ i j, inverse (F := Ideal) g b k kh r (ix2 i j) = ((T' i j : ℝ) : EReal) := by
  let p : Fin 32 → Fin 128 → ℝ := fun i l =>
    (if l.val < 64 then rowScaled (c 0) else rowScaled (c 1)) ⟨32 * (l.val / 32 % 2) + i.val, by omega⟩ ⟨l.val % 64, by omega⟩
  have hp : ∀ i l, packed (F := Ideal) (Head.tri g b k (hd kh 0)) (Head.tri g b k (hd kh 1)) (ix2 i l) = ((p i l : ℝ) : EReal) := by
    intro i l
    rw [packed_apply]
    by_cases h : l.val < 64
    · simp only [p, h, if_true]; exact (L 0).tri _ _
    · simp only [p, h, if_false]; exact (L 1).tri _ _
  have hp1 : ∀ i j : Fin 32, p i ⟨32 * (2 * r.val) + j.val, by omega⟩ = rowScaled (c r) (lo i) (lo j) := by
    intro i j
    have hr : r = 0 ∨ r = 1 := by omega
    have e1 : (32 * (2 * r.val) + j.val) / 32 % 2 = 0 := by omega
    have e2 : (32 * (2 * r.val) + j.val) % 64 = j.val := by omega
    rcases hr with rfl | rfl
    · have : (32 * (2 * (0 : Fin 2).val) + j.val) < 64 := by simp; omega
      simp only [p, this, if_true, e1, e2]; congr 1; apply Fin.ext; simp
    · have : ¬ (32 * (2 * (1 : Fin 2).val) + j.val) < 64 := by simp
      simp only [p, this, if_false, e1, e2]; congr 1; apply Fin.ext; simp
  have hp2 : ∀ i j : Fin 32, p i ⟨32 * (2 * r.val + 1) + j.val, by omega⟩ = rowScaled (c r) (hi i) (hi j) := by
    intro i j
    have hr : r = 0 ∨ r = 1 := by omega
    have e1 : (32 * (2 * r.val + 1) + j.val) / 32 % 2 = 1 := by omega
    have e2 : (32 * (2 * r.val + 1) + j.val) % 64 = 32 + j.val := by omega
    rcases hr with rfl | rfl
    · have : (32 * (2 * (0 : Fin 2).val + 1) + j.val) < 64 := by simp; omega
      simp only [p, this, if_true, e1, e2]
    · have : ¬ (32 * (2 * (1 : Fin 2).val + 1) + j.val) < 64 := by simp; omega
      simp only [p, this, if_false, e1, e2]
  have b1 : blk p ⟨2 * r.val, by omega⟩ = Matrix.of fun i j => rowScaled (c r) (lo i) (lo j) := by ext i j; exact hp1 i j
  have b2 : blk p ⟨2 * r.val + 1, by omega⟩ = Matrix.of fun i j => rowScaled (c r) (hi i) (hi j) := by ext i j; exact hp2 i j
  have s1 : StrictLower (blk p ⟨2 * r.val, by omega⟩) := by
    rw [b1]; exact fun i j h => rowScaled_strict _ _ _ h
  have s2 : StrictLower (blk p ⟨2 * r.val + 1, by omega⟩) := by
    rw [b2]; exact fun i j h => rowScaled_strict _ _ _ (by show 32 + i.val ≤ 32 + j.val; omega)
  obtain ⟨T1, e1, v1⟩ := steps_value _ p hp _ s1 31 le_rfl
  obtain ⟨T2, e2, v2⟩ := steps_value _ p hp _ s2 31 le_rfl
  have i1 := e1.inverse s1
  have i2 := e2.inverse s2
  rw [b1] at i1
  rw [b2] at i2
  refine ⟨_, whole_inverse _ (rowScaled_strict (c r)) T1 T2 i1 i2, fun i j => ?_⟩
  have w1 : ∀ i j : Fin 32, steps (F := Ideal) (packed (Head.tri g b k (hd kh 0)) (Head.tri g b k (hd kh 1))) 31 le_rfl
      (ix2 i ⟨64 * r.val + j.val, by omega⟩) = ((T1 i j : ℝ) : EReal) := fun i j => by
    rw [← v1 i j]; congr 2; apply Fin.ext; show 64 * r.val + j.val = 32 * (2 * r.val) + j.val; omega
  have w2 : ∀ i j : Fin 32, steps (F := Ideal) (packed (Head.tri g b k (hd kh 0)) (Head.tri g b k (hd kh 1))) 31 le_rfl
      (ix2 i ⟨64 * r.val + 32 + j.val, by omega⟩) = ((T2 i j : ℝ) : EReal) := fun i j => by
    rw [← v2 i j]; congr 2; apply Fin.ext; show 64 * r.val + 32 + j.val = 32 * (2 * r.val + 1) + j.val; omega
  unfold inverse
  generalize steps (F := Ideal) (packed (Head.tri g b k (hd kh 0)) (Head.tri g b k (hd kh 1))) 31 le_rfl = T at w1 w2 ⊢
  pointwise [whole]
  rw [Matrix.submatrix_apply]
  by_cases hi' : i.val < 32
  · have ei : (finSumFinEquiv (m := 32) (n := 32)).symm i = Sum.inl ⟨i.val, hi'⟩ := by
      rw [Equiv.symm_apply_eq]; rfl
    by_cases hj : j.val < 32
    · have ej : (finSumFinEquiv (m := 32) (n := 32)).symm j = Sum.inl ⟨j.val, hj⟩ := by
        rw [Equiv.symm_apply_eq]; rfl
      rw [dif_pos hi', dif_pos hj, ei, ej, Matrix.fromBlocks_apply₁₁]
      exact w1 ⟨i.val, hi'⟩ ⟨j.val, hj⟩
    · have ej : (finSumFinEquiv (m := 32) (n := 32)).symm j = Sum.inr ⟨j.val - 32, by omega⟩ := by
        rw [Equiv.symm_apply_eq]; apply Fin.ext; show j.val = 32 + (j.val - 32); omega
      rw [dif_pos hi', dif_neg hj, ei, ej, Matrix.fromBlocks_apply₁₂]
      rfl
  · have ei : (finSumFinEquiv (m := 32) (n := 32)).symm i = Sum.inr ⟨i.val - 32, by omega⟩ := by
      rw [Equiv.symm_apply_eq]; apply Fin.ext; show i.val = 32 + (i.val - 32); omega
    by_cases hj : j.val < 32
    · have ej : (finSumFinEquiv (m := 32) (n := 32)).symm j = Sum.inl ⟨j.val, hj⟩ := by
        rw [Equiv.symm_apply_eq]; rfl
      rw [dif_neg hi', dif_pos hj, ei, ej, Matrix.fromBlocks_apply₂₁, Matrix.neg_apply, Matrix.mul_apply, zero_sub,
        EReal.coe_neg, coe_sum]
      congr 1
      refine Finset.sum_congr rfl fun x _ => ?_
      rw [EReal.coe_mul, Matrix.mul_apply, coe_sum]
      refine congr (congrArg _ (w2 ⟨i.val - 32, by omega⟩ x)) (Finset.sum_congr rfl fun y _ => ?_)
      rw [EReal.coe_mul]
      exact congr (congrArg _ ((L r).tri (hi x) (lo y))) (w1 y ⟨j.val, hj⟩)
    · have ej : (finSumFinEquiv (m := 32) (n := 32)).symm j = Sum.inr ⟨j.val - 32, by omega⟩ := by
        rw [Equiv.symm_apply_eq]; apply Fin.ext; show j.val = 32 + (j.val - 32); omega
      rw [dif_neg hi', dif_neg hj, ei, ej, Matrix.fromBlocks_apply₂₂]
      exact w2 ⟨i.val - 32, by omega⟩ ⟨j.val - 32, by omega⟩

/-! ### The head's results -/

section

variable {g b : Vec Ideal S64x20 .f32} {q k : Vec Ideal S1x1x64x128 .bf16} {h : Fin 20} {c : Data}

/-- The corrected values of the kernel are the real ones, scaled by the inverse norms of the keys. -/
theorem Loads.corrected (L : Loads g b q k h c) (v : Vec Ideal S1x1x64x256 .bf16) (s : Vec Ideal S1x1x128x256 .f32)
    (hv : ∀ i w, v (ix4 0 0 i w) = ((c.v i w : ℝ) : EReal)) (hs : ∀ d w, s (ix4 0 0 d w) = ((c.S d w : ℝ) : EReal))
    (T : FVec Ideal S64x64 .f32) (T' : Matrix (Fin 64) (Fin 64) ℝ) (hT' : T' * (1 + rowScaled c) = 1)
    (hT : ∀ i j, T (ix2 i j) = ((T' i j : ℝ) : EReal)) (i : Fin 64) (w : Fin 256) :
    corrected (F := Ideal) T g b k v s h (ix2 i w) = ((c.rk i * c.vnew i w : ℝ) : EReal) := by
  have hsol := scaled_solution c.A (rowScaled c) c.T T' c.rk (fun j => c.rhs j w) (fun i j => by
    simp only [rowScaled, Data.A, Matrix.of_apply]
    by_cases e : j < i
    · rw [if_pos e, if_pos e]; ring
    · rw [if_neg e, if_neg e]; ring) hT' c.T_mul i
  rw [Data.vnew, ← hsol, coe_sum]
  pointwise [Head.corrected]
  refine Finset.sum_congr rfl fun j _ => ?_
  rw [hT, EReal.coe_mul]
  congr 1
  rw [L.rk, L.b, hv, L.gate, L.rks]
  have : ∑ x, codes (F := Ideal) k (ix2 j x) * s (ix4 0 0 x w) = ((∑ x, c.kc j x * c.S x w : ℝ) : EReal) := by
    rw [coe_sum]; exact Finset.sum_congr rfl fun x _ => by rw [L.kc, hs, EReal.coe_mul]
  rw [this]
  simp only [← EReal.coe_mul, ← EReal.coe_sub]
  congr 2
  simp only [Data.rhs, Data.kn]
  congr 1
  rw [Finset.mul_sum, Finset.mul_sum]
  exact Finset.sum_congr rfl fun x _ => by ring

/-- The outputs from the corrected values are the chunk's. -/
theorem Loads.output (L : Loads g b q k h c) (s : Vec Ideal S1x1x128x256 .f32)
    (hs : ∀ d w, s (ix4 0 0 d w) = ((c.S d w : ℝ) : EReal))
    (y : FVec Ideal S64x256 .f32) (hy : ∀ i w, y (ix2 i w) = ((c.rk i * c.vnew i w : ℝ) : EReal)) (i : Fin 64) (w : Fin 256) :
    output (F := Ideal) y g q k s h (ix4 0 0 i w) = ((c.out i w : ℝ) : EReal) := by
  pointwise [Head.output]
  simp only [L.rqs, L.gate, L.qc, hs, L.sk, L.qk, L.decay, hy, ← EReal.coe_mul, ← coe_sum, ← EReal.coe_add]
  congr 1
  rw [Data.out, Finset.mul_sum]
  congr 1
  · exact Finset.sum_congr rfl fun x _ => by ring
  · exact Finset.sum_congr rfl fun x _ => by ring

/-- The state from the corrected values is the chunk's next state. -/
theorem Loads.state (L : Loads g b q k h c) (s : Vec Ideal S1x1x128x256 .f32)
    (hs : ∀ d w, s (ix4 0 0 d w) = ((c.S d w : ℝ) : EReal))
    (y : FVec Ideal S64x256 .f32) (hy : ∀ i w, y (ix2 i w) = ((c.rk i * c.vnew i w : ℝ) : EReal)) (d : Fin 128) (w : Fin 256) :
    state (F := Ideal) y g k s h (ix4 0 0 d w) = ((c.next d w : ℝ) : EReal) := by
  pointwise [Head.state]
  simp only [L.G, L.kc, hs, L.sk, hy, ← EReal.coe_sub, Ideal.exp_coe, ← EReal.coe_mul, ← coe_sum, ← EReal.coe_add]
  congr 1
  rw [Data.next]
  congr 1
  exact Finset.sum_congr rfl fun x _ => by rw [Data.kn]; ring

end

/-- The output the body stores for a value head is the real chunk's. -/
theorem outputHead_value (g b : Vec Ideal S64x20 .f32) (q k : Vec Ideal S1x1x64x128 .bf16) (v : Vec Ideal S1x1x64x256 .bf16)
    (s : Vec Ideal S1x1x128x256 .f32) (kh : Fin 10) (c : Fin 2 → Data) (L : ∀ r, Loads g b q k (hd kh r) (c r)) (r : Fin 2)
    (hv : ∀ i w, v (ix4 0 0 i w) = (((c r).v i w : ℝ) : EReal)) (hs : ∀ d w, s (ix4 0 0 d w) = (((c r).S d w : ℝ) : EReal))
    (i : Fin 64) (w : Fin 256) :
    outputHead (F := Ideal) g b q k v s kh r (ix4 0 0 i w) = (((c r).out i w : ℝ) : EReal) := by
  obtain ⟨T', hT', hT⟩ := inverse_value g b q k kh c L r
  exact (L r).output s hs _ (fun i w => (L r).corrected v s hv hs _ T' hT' hT i w) i w

/-- The state the body stores for a value head is the real chunk's. -/
theorem stateHead_value (g b : Vec Ideal S64x20 .f32) (q k : Vec Ideal S1x1x64x128 .bf16) (v : Vec Ideal S1x1x64x256 .bf16)
    (s : Vec Ideal S1x1x128x256 .f32) (kh : Fin 10) (c : Fin 2 → Data) (L : ∀ r, Loads g b q k (hd kh r) (c r)) (r : Fin 2)
    (hv : ∀ i w, v (ix4 0 0 i w) = (((c r).v i w : ℝ) : EReal)) (hs : ∀ d w, s (ix4 0 0 d w) = (((c r).S d w : ℝ) : EReal))
    (d : Fin 128) (w : Fin 256) :
    stateHead (F := Ideal) g b k v s kh r (ix4 0 0 d w) = (((c r).next d w : ℝ) : EReal) := by
  obtain ⟨T', hT', hT⟩ := inverse_value g b q k kh c L r
  exact (L r).state s hs _ (fun i w => (L r).corrected v s hv hs _ T' hT' hT i w) d w

end Cert.KernelIdeal.Head

end
-- ==== Proof.Chunks.lean ====
/- The kernel's quantised blocks over the extended reals, and its loads of one value head at one grid point. -/
module

public import proofs.«01_k».proof.Proof.Entry
public import proofs.«01_k».proof.Proof.HeadValue
public import Idealize.ShloMosaic.Lib.Pipeline.ValueKit

@[expose] public section

set_option maxRecDepth 16384

noncomputable section

namespace Cert.KernelIdeal.Head

open Cert.KernelIdeal Cert.KernelIdeal.Gen Idealize.ShloMosaic Idealize.ShloMosaic.TcCoe Idealize.SL.Sem Cert.Chunk Cert.Quant

/-- Folding the maximum of the magnitudes over both dimensions of a block, from minus infinity. -/
theorem fold_amax (X : Fin 64 → Fin 128 → EReal) :
    Finset.fold max (Ideal.ofBits .f32 4286578688#32) (fun d : Fin 128 => Finset.fold max (Ideal.ofBits .f32 4286578688#32)
      (fun i : Fin 64 => (FloatOps.absf (F := Ideal) (φ := .bf16) (X i d) : EReal)) Finset.univ) Finset.univ
      = Finset.univ.sup fun i : Fin 64 => Finset.univ.sup fun d : Fin 128 => mag (X i d) := by
  rw [bot_bits, Finset.sup_comm]
  rfl

section Block

variable (x : Vec Ideal S1x1x64x128 .bf16) (f : Fin 3 → Fin 512 → Fin 10 → Fin 128 → EReal)
  (hf : ∀ b s kh d, ∃ r : ℝ, f b s kh d = (r : EReal) ∧ |r| ≤ 2 ^ 128) (b : Fin 3) (n : Fin 8) (kh : Fin 10)
  (hx : ∀ i d, x (ix4 0 0 i d) = f b (tok n i) kh d)
include hx

/-- The exponent of a block is that of its largest magnitude. -/
theorem expo_block : expo (F := Ideal) x (ix2 0 0) = expoOf (amax f b n kh) := by
  pointwise [expo, wide, k0_pay18, k0_pay19, k0_pay20, k0_pay21]
  erw [fold_amax (fun i d => x (ix4 0 0 i d))]
  simp only [hx]
  rfl

include hf in
/-- The scale the kernel gives a block is the chunk's scale. -/
theorem scale_block : scale (F := Ideal) x (ix2 0 0) = ((Args.scale f b n kh : ℝ) : EReal) := by
  have e := kernel_scale (amax_bounded f hf b n kh)
  rw [Args.scale, ← e]
  pointwise [scale, expo, wide, k0_pay18, k0_pay19, k0_pay20, k0_pay21]
  erw [fold_amax (fun i d => x (ix4 0 0 i d))]
  simp only [hx]
  rfl

include hf in
/-- The codes the kernel gives a block are the chunk's codes. -/
theorem codes_block (i : Fin 64) (d : Fin 128) : codes (F := Ideal) x (ix2 i d) = ((Args.codes f b n i kh d : ℝ) : EReal) := by
  have e := kernel_factor (amax_bounded f hf b n kh)
  rw [← expo_block x f b n kh hx] at e
  rw [Args.codes, code, Args.scale, coe_min, coe_max, EReal.coe_mul, ← e, coe_toReal_of ⟨_, (hf _ _ _ _).choose_spec.1⟩, ← hx, ← top_coe, ← bottom_coe]
  pointwise [codes, k0_pay18, k0_pay22]

include hf in
/-- The inverse norms the kernel gives a block are those of the chunk's rows. -/
theorem norm_block (i : Fin 64) : rnorm (F := Ideal) x (ix2 i 0) = ((Args.norm f b n i kh : ℝ) : EReal) := by
  rw [Args.norm, ← rsqrt_row, EReal.coe_add, coe_sum]
  simp only [EReal.coe_mul]
  pointwise [rnorm, k0_pay18, k0_pay23]
  simp only [hx, eps_coe, coe_toReal_of ⟨_, (hf _ _ _ _).choose_spec.1⟩]

end Block

end Cert.KernelIdeal.Head

end
-- ==== Proof.Steps.lean ====
/- What the kernel's blocks hold after each grid point, chunk after chunk. -/
module

public import proofs.«01_k».proof.Proof.Chunks
public import Idealize.ShloMosaic.Lib.Pipeline.ValueKit

@[expose] public section

set_option maxRecDepth 16384

noncomputable section

namespace Cert.KernelIdeal.Head

open Cert.KernelIdeal Cert.KernelIdeal.Gen Idealize.ShloMosaic Idealize.ShloMosaic.TcCoe Idealize.SL.Sem Cert.Chunk Cert.Quant

/-- Comparing two key heads as words. -/
theorem word_eq10 : ∀ i j : Fin 10, IntOp.cmpi .eq (BitVec.ofNat 32 i.val) (BitVec.ofNat 32 j.val) = if i = j then 1#1 else 0#1 := by decide
/-- Comparing two chunks as words. -/
theorem word_eq8 : ∀ i j : Fin 8, IntOp.cmpi .eq (BitVec.ofNat 32 i.val) (BitVec.ofNat 32 j.val) = if i = j then 1#1 else 0#1 := by decide

/-- The row of scales holds the scale of every key head passed so far. -/
theorem scaleRow_value (x : Fin 10 → Vec Ideal S1x1x64x128 .bf16) (j : ℕ) (hj : j ≤ 10) (kh : Fin 10) (hk : kh.val < j) :
    scaleRow (F := Ideal) x j hj (ix2 0 kh) = scale (F := Ideal) (x kh) (ix2 0 0) := by
  induction j with
  | zero => omega
  | succ j ih =>
    have e : scaleRow (F := Ideal) x (j + 1) hj = select (cmpi .eq (iota .tc S1x10 32 [1] iota_S1x10_d1_w32) (broadcast S1x10 (BitVec.ofNat 32 j)))
      (broadcastTo S1x10 (shapeCast S1x1 (scale (F := Ideal) (x ⟨j, hj⟩)) shapeCasts_S1x1_S1x1) broadcasts_S1x1_S1x10)
      (scaleRow (F := Ideal) x j (Nat.le_of_succ_le hj)) := rfl
    rw [e]
    have hw := word_eq10 kh ⟨j, hj⟩
    pointwise
    rw [hw, select_ite]
    by_cases hc : kh = ⟨j, hj⟩
    · rw [if_pos hc, hc]
    · rw [if_neg hc]
      exact ih _ (by have : kh.val ≠ j := fun h => hc (Fin.ext h); omega)

/-- A store of scales replaces the chunk's row. -/
theorem row_value (n : Fin 8) (row : FVec Ideal S1x10 .f32) (old : Vec Ideal S1x8x10 .f32) (r : Fin 8) (kh : Fin 10) :
    k0_pay2 (F := Ideal) (BitVec.ofNat 32 n.val) (iota .tc S8x10 32 [0] iota_S8x10_d0_w32) row old (ix3 0 r kh)
      = if r = n then row (ix2 0 kh) else old (ix3 0 r kh) := by
  have hw := word_eq8 r n
  pointwise [k0_pay2]
  rw [hw, select_ite]

variable (m : (ℓ : Loc nD τ sig) → Buf (Elt Ideal) ℓ) (c : Dev nD)

/-- A value head by its key head and its place in it. -/
theorem hd_split (h : Fin 20) : hd (keyOf h) (sideOf h) = h := Fin.ext (by show 2 * (h.val / 2) + h.val % 2 = h.val; omega)
/-- The key head of a value head of a key head. -/
theorem keyHead_hd (kh : Fin 10) (r : Fin 2) : keyHead (hd kh r) = kh := Fin.ext (by show (2 * kh.val + r.val) / 2 = kh.val; omega)

section Point

variable (hr : (args m c).Real) (t : Fin cfg0.N) (G B : Vec Ideal S512x20 .f32)
  (hG : ∀ s h, G (ix2 s h) = (args m c).g (bt t) s h) (hB : ∀ s h, B (ix2 s h) = (args m c).beta (bt t) s h)
include hr

include hG hB in
/-- The loads of a value head are those of the chunk. -/
theorem loads (kh : Fin 10) (r : Fin 2) (S : Fin 128 → Fin 256 → ℝ) :
    Loads (cut G (rChunk (grid0.coords t))) (cut B (rChunk (grid0.coords t))) (cut (iblk m c 0 t) (rKey kh)) (cut (iblk m c 1 t) (rKey kh))
      (hd kh r) ((args m c).chunk (bt t) (hd kh r) (nt t) S) := by
  have hk : ∀ i d, cut (iblk m c 1 t) (rKey kh) (ix4 0 0 i d) = (args m c).k (bt t) (tok (nt t) i) kh d := fun i d => by
    refine (cut_key kh _ i d).trans (keys_read m c t kh i d)
  have hq : ∀ i d, cut (iblk m c 0 t) (rKey kh) (ix4 0 0 i d) = (args m c).q (bt t) (tok (nt t) i) kh d := fun i d => by
    refine (cut_key kh _ i d).trans (queries_read m c t kh i d)
  constructor
  · intro i d
    refine (codes_block _ _ hr.k _ _ _ hk i d).trans ?_
    show _ = ((Args.codes _ _ _ _ (keyHead (hd kh r)) _ : ℝ) : EReal)
    rw [keyHead_hd]
  · intro i d
    refine (codes_block _ _ hr.q _ _ _ hq i d).trans ?_
    show _ = ((Args.codes _ _ _ _ (keyHead (hd kh r)) _ : ℝ) : EReal)
    rw [keyHead_hd]
  · refine (scale_block _ _ hr.k _ _ _ hk).trans ?_
    show _ = ((Args.scale _ _ _ (keyHead (hd kh r)) : ℝ) : EReal)
    rw [keyHead_hd]
  · refine (scale_block _ _ hr.q _ _ _ hq).trans ?_
    show _ = ((Args.scale _ _ _ (keyHead (hd kh r)) : ℝ) : EReal)
    rw [keyHead_hd]
  · intro i
    refine (norm_block _ _ hr.k _ _ _ hk i).trans ?_
    show _ = ((Args.norm _ _ _ _ (keyHead (hd kh r)) : ℝ) : EReal)
    rw [keyHead_hd]
  · intro i
    refine (norm_block _ _ hr.q _ _ _ hq i).trans ?_
    show _ = ((Args.norm _ _ _ _ (keyHead (hd kh r)) : ℝ) : EReal)
    rw [keyHead_hd]
  · intro i
    have e : ∀ j, cut G (rChunk (grid0.coords t)) (ix2 j (hd kh r)) = (((args m c).g (bt t) (tok (nt t) j) (hd kh r)).toReal : EReal) := fun j => by
      rw [cut_chunk t G, hG, coe_toReal_of (hr.g _ _ _)]
    show _ = (((args m c).gates _ _ _ _ : ℝ) : EReal)
    rw [Args.gates, coe_sum]
    pointwise [k0_pay8]
    refine Finset.sum_congr rfl fun j _ => ?_
    rw [sge_word, select_ite, e]
    split <;> simp
  · intro i
    show _ = ((((args m c).beta _ _ _).toReal : ℝ) : EReal)
    rw [cut_chunk t B, hB, coe_toReal_of (hr.beta _ _ _)]

variable (S : Vec Ideal S1x20x128x256 .f32) (hS : ∀ h d w, S (ix4 0 h d w) = (((args m c).stateAt (bt t) h (nt t).val d w : ℝ) : EReal))
include hG hB hS

/-- The state the body stores at a grid point is the chunk's next state. -/
theorem state_point (h : Fin 20) (d : Fin 128) (w : Fin 256) :
    stateHead (F := Ideal) (cut G (rChunk (grid0.coords t))) (cut B (rChunk (grid0.coords t))) (cut (iblk m c 1 t) (rKey (keyOf h)))
      (cut (iblk m c 2 t) (rVal h)) (cut S (rState h)) (keyOf h) (sideOf h) (ix4 0 0 d w)
      = (((args m c).stateAt (bt t) h ((nt t).val + 1) d w : ℝ) : EReal) := by
  have e := stateHead_value _ _ _ _ (cut (iblk m c 2 t) (rVal h)) (cut S (rState h)) (keyOf h)
    (fun r => (args m c).chunk (bt t) (hd (keyOf h) r) (nt t) ((args m c).stateAt (bt t) (hd (keyOf h) r) (nt t).val))
    (fun r => loads m c hr t G B hG hB (keyOf h) r _) (sideOf h)
    (fun i w => by
      rw [hd_split]
      refine (cut_val h _ i w).trans ((values_read m c t h i w).trans (coe_toReal_of (hr.v _ _ _ _)).symm))
    (fun d w => by
      rw [hd_split]
      exact (cut_state h _ d w).trans (hS h d w)) d w
  rw [e, hd_split, Args.stateAt_succ]

/-- The outputs the body stores at a grid point are the chunk's. -/
theorem output_point (h : Fin 20) (i : Fin 64) (w : Fin 256) :
    outputHead (F := Ideal) (cut G (rChunk (grid0.coords t))) (cut B (rChunk (grid0.coords t))) (cut (iblk m c 0 t) (rKey (keyOf h)))
      (cut (iblk m c 1 t) (rKey (keyOf h)))
      (cut (iblk m c 2 t) (rVal h)) (cut S (rState h)) (keyOf h) (sideOf h) (ix4 0 0 i w)
      = (((args m c).out (bt t) (nt t) i h w : ℝ) : EReal) := by
  have e := outputHead_value _ _ _ _ (cut (iblk m c 2 t) (rVal h)) (cut S (rState h)) (keyOf h)
    (fun r => (args m c).chunk (bt t) (hd (keyOf h) r) (nt t) ((args m c).stateAt (bt t) (hd (keyOf h) r) (nt t).val))
    (fun r => loads m c hr t G B hG hB (keyOf h) r _) (sideOf h)
    (fun i w => by
      rw [hd_split]
      refine (cut_val h _ i w).trans ((values_read m c t h i w).trans (coe_toReal_of (hr.v _ _ _ _)).symm))
    (fun d w => by
      rw [hd_split]
      exact (cut_state h _ d w).trans (hS h d w)) i w
  rw [e, hd_split, Args.out]

end Point

/-- What is true after grid point `n`. -/
structure After (n : ℕ) (hn : n < cfg0.N) : Prop where
  gates : ∀ s h, (outsAt0 m c n hn).2.2.2.2.2.2.1 (ix2 s h) = (args m c).g (bt ⟨n, hn⟩) s h
  betas : ∀ s h, (outsAt0 m c n hn).2.2.2.2.2.2.2 (ix2 s h) = (args m c).beta (bt ⟨n, hn⟩) s h
  state : ∀ h d w, (outsAt0 m c n hn).2.1 (ix4 0 h d w) = (((args m c).stateAt (bt ⟨n, hn⟩) h (n % 8 + 1) d w : ℝ) : EReal)
  output : ∀ h i w, (outsAt0 m c n hn).1 (ix4 0 h i w) = (((args m c).out (bt ⟨n, hn⟩) (nt ⟨n, hn⟩) i h w : ℝ) : EReal)
  kcodes : ∀ h i d, (outsAt0 m c n hn).2.2.1 (ix4 0 h i d) = ((Args.codes (args m c).k (bt ⟨n, hn⟩) (nt ⟨n, hn⟩) i h d : ℝ) : EReal)
  qcodes : ∀ h i d, (outsAt0 m c n hn).2.2.2.2.1 (ix4 0 h i d) = ((Args.codes (args m c).q (bt ⟨n, hn⟩) (nt ⟨n, hn⟩) i h d : ℝ) : EReal)
  kscales : ∀ (r : Fin 8) h, r.val ≤ n % 8 → (outsAt0 m c n hn).2.2.2.1 (ix3 0 r h) = ((Args.scale (args m c).k (bt ⟨n, hn⟩) r h : ℝ) : EReal)
  qscales : ∀ (r : Fin 8) h, r.val ≤ n % 8 → (outsAt0 m c n hn).2.2.2.2.2.1 (ix3 0 r h) = ((Args.scale (args m c).q (bt ⟨n, hn⟩) r h : ℝ) : EReal)

/-- The codes of a block, entry by entry. -/
theorem codes_read (x : Vec Ideal S1x1x64x128 .bf16) (i : Fin 64) (d : Fin 128) :
    shapeCast S1x1x64x128 (codes (F := Ideal) x) shapeCasts_S64x128_S1x1x64x128 (ix4 0 0 i d) = codes (F := Ideal) x (ix2 i d) := by
  generalize codes (F := Ideal) x = y
  pointwise

section Scales

variable (hr : (args m c).Real) (t : Fin cfg0.N)
include hr

/-- The keys of a key head at a grid point. -/
theorem kkeys (kh : Fin 10) (i : Fin 64) (d : Fin 128) : cut (iblk m c 1 t) (rKey kh) (ix4 0 0 i d) = (args m c).k (bt t) (tok (nt t) i) kh d :=
  (cut_key kh _ i d).trans (keys_read m c t kh i d)
/-- The queries of a key head at a grid point. -/
theorem qkeys (kh : Fin 10) (i : Fin 64) (d : Fin 128) : cut (iblk m c 0 t) (rKey kh) (ix4 0 0 i d) = (args m c).q (bt t) (tok (nt t) i) kh d :=
  (cut_key kh _ i d).trans (queries_read m c t kh i d)

/-- The key scales after a grid point's row is replaced. -/
theorem kscales_point (old : Vec Ideal S1x8x10 .f32) (r : Fin 8) (h : Fin 10)
    (ho : r.val < t.val % 8 → old (ix3 0 r h) = ((Args.scale (args m c).k (bt t) r h : ℝ) : EReal)) (hle : r.val ≤ t.val % 8) :
    k0_pay2 (F := Ideal) (BitVec.ofNat 32 (grid0.coords t 1).val) (iota .tc S8x10 32 [0] iota_S8x10_d0_w32)
        (scaleRow (fun h => cut (iblk m c 1 t) (rKey h)) 10 le_rfl) old (ix3 0 r h) = ((Args.scale (args m c).k (bt t) r h : ℝ) : EReal) := by
  rw [coord1]
  refine (row_value (nt t) _ _ r h).trans ?_
  split
  · next e =>
    subst e
    rw [scaleRow_value _ _ _ _ h.isLt]
    exact scale_block _ _ hr.k _ _ _ (kkeys m c hr t h)
  · next e => exact ho (lt_of_le_of_ne hle fun e' => e (Fin.ext e'))

/-- The query scales after a grid point's row is replaced. -/
theorem qscales_point (old : Vec Ideal S1x8x10 .f32) (r : Fin 8) (h : Fin 10)
    (ho : r.val < t.val % 8 → old (ix3 0 r h) = ((Args.scale (args m c).q (bt t) r h : ℝ) : EReal)) (hle : r.val ≤ t.val % 8) :
    k0_pay2 (F := Ideal) (BitVec.ofNat 32 (grid0.coords t 1).val) (iota .tc S8x10 32 [0] iota_S8x10_d0_w32)
        (scaleRow (fun h => cut (iblk m c 0 t) (rKey h)) 10 le_rfl) old (ix3 0 r h) = ((Args.scale (args m c).q (bt t) r h : ℝ) : EReal) := by
  rw [coord1]
  refine (row_value (nt t) _ _ r h).trans ?_
  split
  · next e =>
    subst e
    rw [scaleRow_value _ _ _ _ h.isLt]
    exact scale_block _ _ hr.q _ _ _ (qkeys m c hr t h)
  · next e => exact ho (lt_of_le_of_ne hle fun e' => e (Fin.ext e'))

/-- After the first chunk of a batch entry. -/
theorem after_first (h0 : t.val % 8 = 0) : After m c t.val t.isLt := by
  have hG : ∀ s h, k0_pay6 (iblk m c 3 t) (ix2 s h) = (args m c).g (bt t) s h := fun s h =>
    (scratch_read _ s h).trans (gates_read m c t h s)
  have hB : ∀ s h, k0_pay6 (iblk m c 4 t) (ix2 s h) = (args m c).beta (bt t) s h := fun s h =>
    (scratch_read _ s h).trans (betas_read m c t h s)
  have hS : ∀ h d w, iblk m c 5 t (ix4 0 h d w) = (((args m c).stateAt (bt t) h (nt t).val d w : ℝ) : EReal) := fun h d w => by
    rw [state_read]
    show _ = (((args m c).stateAt (bt t) h (t.val % 8) d w : ℝ) : EReal)
    rw [h0, Args.stateAt_zero, coe_toReal_of (hr.s _ _ _ _)]
  constructor
  · intro s h; rw [gates_first m c t h0]; exact hG s h
  · intro s h; rw [betas_first m c t h0]; exact hB s h
  · intro h d w; rw [state_first m c t h0]; exact state_point m c hr t _ _ hG hB _ hS h d w
  · intro h i w; rw [output_first m c t h0]; exact output_point m c hr t _ _ hG hB _ hS h i w
  · intro h i d; rw [kcodes_first m c t h0, codes_read]; exact codes_block _ _ hr.k _ _ _ (kkeys m c hr t h) i d
  · intro h i d; rw [qcodes_first m c t h0, codes_read]; exact codes_block _ _ hr.q _ _ _ (qkeys m c hr t h) i d
  · intro r h hle; rw [kscales_first m c t h0]; exact kscales_point m c hr t _ r h (fun hl => by omega) hle
  · intro r h hle; rw [qscales_first m c t h0]; exact qscales_point m c hr t _ r h (fun hl => by omega) hle

/-- After a later chunk. -/
theorem after_later (h0 : ¬t.val % 8 = 0) (P : After m c (t.val - 1) (Nat.lt_of_le_of_lt (Nat.sub_le _ _) t.isLt)) :
    After m c t.val t.isLt := by
  have eb : bt ⟨t.val - 1, Nat.lt_of_le_of_lt (Nat.sub_le _ _) t.isLt⟩ = bt t := Fin.ext (by show (t.val - 1) / 8 = t.val / 8; omega)
  have en : (t.val - 1) % 8 + 1 = (nt t).val := by show (t.val - 1) % 8 + 1 = t.val % 8; omega
  obtain ⟨pG, pB, pS, -, -, -, pk, pq⟩ := P
  rw [eb] at pG pB pS pk pq
  rw [en] at pS
  constructor
  · intro s h; rw [gates_later m c t h0]; exact pG s h
  · intro s h; rw [betas_later m c t h0]; exact pB s h
  · intro h d w; rw [state_later m c t h0]; exact state_point m c hr t _ _ pG pB _ pS h d w
  · intro h i w; rw [output_later m c t h0]; exact output_point m c hr t _ _ pG pB _ pS h i w
  · intro h i d; rw [kcodes_later m c t h0, codes_read]; exact codes_block _ _ hr.k _ _ _ (kkeys m c hr t h) i d
  · intro h i d; rw [qcodes_later m c t h0, codes_read]; exact codes_block _ _ hr.q _ _ _ (qkeys m c hr t h) i d
  · intro r h hle; rw [kscales_later m c t h0]
    exact kscales_point m c hr t _ r h (fun hl => pk r h (by have := en; have : (nt t).val = t.val % 8 := rfl; omega)) hle
  · intro r h hle; rw [qscales_later m c t h0]
    exact qscales_point m c hr t _ r h (fun hl => pq r h (by have := en; have : (nt t).val = t.val % 8 := rfl; omega)) hle

end Scales

/-- After every grid point. -/
theorem after_all (hr : (args m c).Real) (n : ℕ) : ∀ hn : n < cfg0.N, After m c n hn := by
  induction n with
  | zero => exact fun hn => after_first m c hr ⟨0, hn⟩ rfl
  | succ n ih =>
    intro hn
    by_cases h0 : (n + 1) % 8 = 0
    · exact after_first m c hr ⟨n + 1, hn⟩ h0
    · exact after_later m c hr ⟨n + 1, hn⟩ h0 (ih _)

end Cert.KernelIdeal.Head

end
-- ==== Proof.Results.lean ====
/- The six result arrays of the kernel. -/
module

public import proofs.«01_k».proof.Proof.Steps
public import Idealize.ShloMosaic.Lib.Pipeline.ValueKit
public import Idealize.ShloMosaic.Lib.Claim

@[expose] public section

set_option maxRecDepth 16384

noncomputable section

namespace Cert.KernelIdeal.Head

open Cert.KernelIdeal Cert.KernelIdeal.Gen Idealize.ShloMosaic Idealize.ShloMosaic.TcCoe Idealize.SL.Sem Cert.Chunk Cert.Quant
open Idealize.ShloMosaic.Pipeline (Dat)

/-- The chunk of a position. -/
abbrev chunkOf (s : Fin 512) : Fin 8 := ⟨s.val / 64, by omega⟩
/-- The place of a position in its chunk. -/
abbrev placeOf (s : Fin 512) : Fin 64 := ⟨s.val % 64, by omega⟩

/-- The outputs, by batch entry, position and head. -/
def outAt (a : Args) (b : Fin 3) (s : Fin 512) (h : Fin 20) (w : Fin 256) : EReal := ((a.out b (chunkOf s) (placeOf s) h w : ℝ) : EReal)
/-- The codes of `x`, by batch entry, position and head. -/
def codeAt (x : Fin 3 → Fin 512 → Fin 10 → Fin 128 → EReal) (b : Fin 3) (s : Fin 512) (h : Fin 10) (d : Fin 128) : EReal :=
  ((Args.codes x b (chunkOf s) (placeOf s) h d : ℝ) : EReal)

variable (m : (ℓ : Loc nD τ sig) → Buf (Elt Ideal) ℓ) (c : Dev nD)

/-- Which block of its array window 6 writes at a grid point. -/
theorem oidx6 : ∀ t : Fin cfg0.N, win0_6.index t = ![t.val / 8, 0, t.val % 8, 0] := (by decide +kernel : ∀ t : Fin grid0.N, _)
/-- Which block of its array window 7 writes at a grid point. -/
theorem oidx7 : ∀ t : Fin cfg0.N, win0_7.index t = ![t.val / 8, 0, 0, 0] := (by decide +kernel : ∀ t : Fin grid0.N, _)
/-- Which block of its array window 8 writes at a grid point. -/
theorem oidx8 : ∀ t : Fin cfg0.N, win0_8.index t = ![t.val / 8, 0, t.val % 8, 0] := (by decide +kernel : ∀ t : Fin grid0.N, _)
/-- Which block of its array window 9 writes at a grid point. -/
theorem oidx9 : ∀ t : Fin cfg0.N, win0_9.index t = ![t.val / 8, 0, 0] := (by decide +kernel : ∀ t : Fin grid0.N, _)
/-- Which block of its array window 10 writes at a grid point. -/
theorem oidx10 : ∀ t : Fin cfg0.N, win0_10.index t = ![t.val / 8, 0, t.val % 8, 0] := (by decide +kernel : ∀ t : Fin grid0.N, _)
/-- Which block of its array window 11 writes at a grid point. -/
theorem oidx11 : ∀ t : Fin cfg0.N, win0_11.index t = ![t.val / 8, 0, 0] := (by decide +kernel : ∀ t : Fin grid0.N, _)

/-- The outputs, heads before positions. -/
def arr6 : Vec Ideal S3x20x512x256 .bf16 := fun y => outAt (args m c) (y 0) (y 2) (y 1) (y 3)
/-- The final states. -/
def arr7 : Vec Ideal S3x20x128x256 .f32 := fun y => (((args m c).stateAt (y 0) (y 1) 8 (y 2) (y 3) : ℝ) : EReal)
/-- The key codes, heads before positions. -/
def arr8 : Vec Ideal S3x10x512x128 .fp8e4m3 := fun y => codeAt (args m c).k (y 0) (y 2) (y 1) (y 3)
/-- The key scales. -/
def arr9 : Vec Ideal S3x8x10 .f32 := fun y => ((Args.scale (args m c).k (y 0) (y 1) (y 2) : ℝ) : EReal)
/-- The query codes, heads before positions. -/
def arr10 : Vec Ideal S3x10x512x128 .fp8e4m3 := fun y => codeAt (args m c).q (y 0) (y 2) (y 1) (y 3)
/-- The query scales. -/
def arr11 : Vec Ideal S3x8x10 .f32 := fun y => ((Args.scale (args m c).q (y 0) (y 1) (y 2) : ℝ) : EReal)

variable (hr : (args m c).Real)
include hr

/-- The outputs after the last grid point. -/
theorem final6 : (dats m 0 c).arrAt 6 (cfgs 0).N = arr6 m c := by
  refine (dats m 0 c).arrAt_eq_of_covers 6 _ (by decide +kernel) fun t hf y => ?_
  blk_simp
  rw [after0_6]
  have key : ∀ (h : Fin 20) (d : Fin 64) (w : Fin 256), (outsAt0 m c t.val t.isLt).1 (ix4 0 h d w) = arr6 m c ((win0_6.blk t).view.emb (ix4 0 h d w)) := fun h d w => by
    have e : (win0_6.blk t).view.emb (ix4 0 h d w) = ix4 (bt t) h (tok (nt t) d) w := by blk_ext [oidx6 t]
    rw [e, (after_all m c hr t.val t.isLt).output]
    show _ = outAt (args m c) (bt t) (tok (nt t) d) h w
    have e1 : chunkOf (tok (nt t) d) = nt t := Fin.ext (by show (64 * (t.val % 8) + d.val) / 64 = t.val % 8; omega)
    have e2 : placeOf (tok (nt t) d) = d := Fin.ext (by show (64 * (t.val % 8) + d.val) % 64 = d.val; omega)
    rw [outAt, e1, e2]
  have ey : y = ix4 0 (y 1) (y 2) (y 3) := by
    funext a
    match a with
    | ⟨0, _⟩ => exact Fin.ext (by have := (y 0).isLt; show (y 0).val = 0; have e : ((cfg0.win 6).xblock (cfg0.grid.coords t)).size 0 = 1 := rfl; omega)
    | ⟨1, _⟩ => rfl
    | ⟨2, _⟩ => rfl
    | ⟨3, _⟩ => rfl
  rw [ey]
  exact key (y 1) (y 2) (y 3)

/-- The final states. -/
theorem final7 : (dats m 0 c).arrAt 7 (cfgs 0).N = arr7 m c := by
  refine (dats m 0 c).arrAt_eq_of_covers 7 _ (by decide +kernel) fun t hf y => ?_
  have h7 := (flush0_7 t).mp hf
  blk_simp
  rw [after0_7]
  have key : ∀ (h : Fin 20) (d : Fin 128) (w : Fin 256), (outsAt0 m c t.val t.isLt).2.1 (ix4 0 h d w) = arr7 m c ((win0_7.blk t).view.emb (ix4 0 h d w)) := fun h d w => by
    have e : (win0_7.blk t).view.emb (ix4 0 h d w) = ix4 (bt t) h d w := by blk_ext [oidx7 t]
    rw [e, (after_all m c hr t.val t.isLt).state]
    rw [h7]
    rfl
  have ey : y = ix4 0 (y 1) (y 2) (y 3) := by
    funext a
    match a with
    | ⟨0, _⟩ => exact Fin.ext (by have := (y 0).isLt; show (y 0).val = 0; have e : ((cfg0.win 7).xblock (cfg0.grid.coords t)).size 0 = 1 := rfl; omega)
    | ⟨1, _⟩ => rfl
    | ⟨2, _⟩ => rfl
    | ⟨3, _⟩ => rfl
  rw [ey]
  exact key (y 1) (y 2) (y 3)

/-- The key codes. -/
theorem final8 : (dats m 0 c).arrAt 8 (cfgs 0).N = arr8 m c := by
  refine (dats m 0 c).arrAt_eq_of_covers 8 _ (by decide +kernel) fun t hf y => ?_
  blk_simp
  rw [after0_8]
  have key : ∀ (h : Fin 10) (d : Fin 64) (w : Fin 128), (outsAt0 m c t.val t.isLt).2.2.1 (ix4 0 h d w) = arr8 m c ((win0_8.blk t).view.emb (ix4 0 h d w)) := fun h d w => by
    have e : (win0_8.blk t).view.emb (ix4 0 h d w) = ix4 (bt t) h (tok (nt t) d) w := by blk_ext [oidx8 t]
    rw [e, (after_all m c hr t.val t.isLt).kcodes]
    show _ = codeAt (args m c).k (bt t) (tok (nt t) d) h w
    have e1 : chunkOf (tok (nt t) d) = nt t := Fin.ext (by show (64 * (t.val % 8) + d.val) / 64 = t.val % 8; omega)
    have e2 : placeOf (tok (nt t) d) = d := Fin.ext (by show (64 * (t.val % 8) + d.val) % 64 = d.val; omega)
    rw [codeAt, e1, e2]
  have ey : y = ix4 0 (y 1) (y 2) (y 3) := by
    funext a
    match a with
    | ⟨0, _⟩ => exact Fin.ext (by have := (y 0).isLt; show (y 0).val = 0; have e : ((cfg0.win 8).xblock (cfg0.grid.coords t)).size 0 = 1 := rfl; omega)
    | ⟨1, _⟩ => rfl
    | ⟨2, _⟩ => rfl
    | ⟨3, _⟩ => rfl
  rw [ey]
  exact key (y 1) (y 2) (y 3)

/-- The key scales. -/
theorem final9 : (dats m 0 c).arrAt 9 (cfgs 0).N = arr9 m c := by
  refine (dats m 0 c).arrAt_eq_of_covers 9 _ (by decide +kernel) fun t hf y => ?_
  have h7 := (flush0_9 t).mp hf
  blk_simp
  rw [after0_9]
  have key : ∀ (r : Fin 8) (h : Fin 10), (outsAt0 m c t.val t.isLt).2.2.2.1 (ix3 0 r h) = arr9 m c ((win0_9.blk t).view.emb (ix3 0 r h)) := fun r h => by
    have e : (win0_9.blk t).view.emb (ix3 0 r h) = ix3 (bt t) r h := by blk_ext [oidx9 t]
    rw [e, (after_all m c hr t.val t.isLt).kscales r h (by omega)]
    rfl
  have ey : y = ix3 0 (y 1) (y 2) := by
    funext a
    match a with
    | ⟨0, _⟩ => exact Fin.ext (by have := (y 0).isLt; show (y 0).val = 0; have e : ((cfg0.win 9).xblock (cfg0.grid.coords t)).size 0 = 1 := rfl; omega)
    | ⟨1, _⟩ => rfl
    | ⟨2, _⟩ => rfl
  rw [ey]
  exact key (y 1) (y 2)

/-- The query codes. -/
theorem final10 : (dats m 0 c).arrAt 10 (cfgs 0).N = arr10 m c := by
  refine (dats m 0 c).arrAt_eq_of_covers 10 _ (by decide +kernel) fun t hf y => ?_
  blk_simp
  rw [after0_10]
  have key : ∀ (h : Fin 10) (d : Fin 64) (w : Fin 128), (outsAt0 m c t.val t.isLt).2.2.2.2.1 (ix4 0 h d w) = arr10 m c ((win0_10.blk t).view.emb (ix4 0 h d w)) := fun h d w => by
    have e : (win0_10.blk t).view.emb (ix4 0 h d w) = ix4 (bt t) h (tok (nt t) d) w := by blk_ext [oidx10 t]
    rw [e, (after_all m c hr t.val t.isLt).qcodes]
    show _ = codeAt (args m c).q (bt t) (tok (nt t) d) h w
    have e1 : chunkOf (tok (nt t) d) = nt t := Fin.ext (by show (64 * (t.val % 8) + d.val) / 64 = t.val % 8; omega)
    have e2 : placeOf (tok (nt t) d) = d := Fin.ext (by show (64 * (t.val % 8) + d.val) % 64 = d.val; omega)
    rw [codeAt, e1, e2]
  have ey : y = ix4 0 (y 1) (y 2) (y 3) := by
    funext a
    match a with
    | ⟨0, _⟩ => exact Fin.ext (by have := (y 0).isLt; show (y 0).val = 0; have e : ((cfg0.win 10).xblock (cfg0.grid.coords t)).size 0 = 1 := rfl; omega)
    | ⟨1, _⟩ => rfl
    | ⟨2, _⟩ => rfl
    | ⟨3, _⟩ => rfl
  rw [ey]
  exact key (y 1) (y 2) (y 3)

/-- The query scales. -/
theorem final11 : (dats m 0 c).arrAt 11 (cfgs 0).N = arr11 m c := by
  refine (dats m 0 c).arrAt_eq_of_covers 11 _ (by decide +kernel) fun t hf y => ?_
  have h7 := (flush0_11 t).mp hf
  blk_simp
  rw [after0_11]
  have key : ∀ (r : Fin 8) (h : Fin 10), (outsAt0 m c t.val t.isLt).2.2.2.2.2.1 (ix3 0 r h) = arr11 m c ((win0_11.blk t).view.emb (ix3 0 r h)) := fun r h => by
    have e : (win0_11.blk t).view.emb (ix3 0 r h) = ix3 (bt t) r h := by blk_ext [oidx11 t]
    rw [e, (after_all m c hr t.val t.isLt).qscales r h (by omega)]
    rfl
  have ey : y = ix3 0 (y 1) (y 2) := by
    funext a
    match a with
    | ⟨0, _⟩ => exact Fin.ext (by have := (y 0).isLt; show (y 0).val = 0; have e : ((cfg0.win 11).xblock (cfg0.grid.coords t)).size 0 = 1 := rfl; omega)
    | ⟨1, _⟩ => rfl
    | ⟨2, _⟩ => rfl
  rw [ey]
  exact key (y 1) (y 2)

/-- The outputs as the kernel returns them, positions before heads. -/
theorem tail6 : Pipeline.afterTail₀ cfgs (dats m) 0 (V0 m) [hostOps1] c main_v6 = fun y => outAt (args m c) (y 0) (y 1) (y 2) (y 3) := by
  show StableHlo.after hostOps1 _ _ = _
  after_results
  have e : Pipeline.withArrays (cfgs 0).spec c (V0 m c) (fun w => (dats m 0 c).arrAt w (cfgs 0).N) (Proc.tc.devRef main_v5_0) = arr6 m c :=
    (Pipeline.withArrays_arr spec0 launch0.win.arr_inj c (V0 m c) _ 6).trans (final6 m c hr)
  rw [e]
  funext y
  pointwise
  rfl

/-- The key codes as the kernel returns them. -/
theorem tail8 : Pipeline.afterTail₀ cfgs (dats m) 0 (V0 m) [hostOps1] c main_v7 = fun y => codeAt (args m c).k (y 0) (y 1) (y 2) (y 3) := by
  show StableHlo.after hostOps1 _ _ = _
  after_results
  have e : Pipeline.withArrays (cfgs 0).spec c (V0 m c) (fun w => (dats m 0 c).arrAt w (cfgs 0).N) (Proc.tc.devRef main_v5_2) = arr8 m c :=
    (Pipeline.withArrays_arr spec0 launch0.win.arr_inj c (V0 m c) _ 8).trans (final8 m c hr)
  rw [e]
  funext y
  pointwise
  rfl

/-- The query codes as the kernel returns them. -/
theorem tail10 : Pipeline.afterTail₀ cfgs (dats m) 0 (V0 m) [hostOps1] c main_v8 = fun y => codeAt (args m c).q (y 0) (y 1) (y 2) (y 3) := by
  show StableHlo.after hostOps1 _ _ = _
  after_results
  have e : Pipeline.withArrays (cfgs 0).spec c (V0 m c) (fun w => (dats m 0 c).arrAt w (cfgs 0).N) (Proc.tc.devRef main_v5_4) = arr10 m c :=
    (Pipeline.withArrays_arr spec0 launch0.win.arr_inj c (V0 m c) _ 10).trans (final10 m c hr)
  rw [e]
  funext y
  pointwise
  rfl

omit hr in
/-- The kernel's run: every result array at the end. -/
theorem run (hr : ∀ c, (args m c).Real) (ρ : Dev nD → PrngReg) : θ_run defs (onTc (τ := τ) (main (F := Ideal))) (s₀ m ρ) fun r => ∀ c : Dev nD,
    r.2.mem ((c : Thread nD τ).loc main_v6) = (fun y => outAt (args m c) (y 0) (y 1) (y 2) (y 3))
    ∧ r.2.mem ((c : Thread nD τ).loc main_v5_1) = arr7 m c
    ∧ r.2.mem ((c : Thread nD τ).loc main_v7) = (fun y => codeAt (args m c).k (y 0) (y 1) (y 2) (y 3))
    ∧ r.2.mem ((c : Thread nD τ).loc main_v5_3) = arr9 m c
    ∧ r.2.mem ((c : Thread nD τ).loc main_v8) = (fun y => codeAt (args m c).q (y 0) (y 1) (y 2) (y 3))
    ∧ r.2.mem ((c : Thread nD τ).loc main_v5_5) = arr11 m c := by
  run_from Cert.KernelIdeal.Gen.run_main m ρ
  · exact tail6 m c (hr c)
  · exact final7 m c (hr c)
  · exact tail8 m c (hr c)
  · exact final9 m c (hr c)
  · exact tail10 m c (hr c)
  · exact final11 m c (hr c)

end Cert.KernelIdeal.Head

end
-- ==== Proof.RefStages.lean ====
/- The reference's arrays before its scan, read at an index: the same quantities as the kernel's, chunk after chunk. -/
module

public import proofs.«01_k».proof.Proof.Gen.ReferenceIdeal.Run
public import proofs.«01_k».proof.Proof.Args
public import Idealize.ShloMosaic.Lib.Pipeline.ValueKit

@[expose] public section

set_option maxRecDepth 16384

noncomputable section

namespace Cert.ReferenceIdeal.Stages

open Cert.ReferenceIdeal Cert.ReferenceIdeal.Gen Cert.ReferenceIdeal.Value Idealize.ShloMosaic Idealize.ShloMosaic.TcCoe Idealize.SL.Sem Cert.Chunk

/-- The value head `r` of a key head. -/
abbrev head (kh : Fin 10) (r : Fin 2) : Fin 20 := ⟨kh.val * 2 + r.val, by omega⟩
/-- The key head of a value head of a key head. -/
theorem keyHead_head (kh : Fin 10) (r : Fin 2) : keyHead (head kh r) = kh := Fin.ext (by simp only []; omega)
/-- A position by its chunk and its place. -/
theorem tok_eq (n : Fin 8) (i : Fin 64) (h : n.val * 64 + i.val < 512) : (⟨n.val * 64 + i.val, h⟩ : Fin 512) = tok n i :=
  Fin.ext (by simp only []; omega)
/-- The constant zero. -/
theorem zero_word : (id (constant (F := Ideal) S_ .f32 0#32) ix0 : EReal) = 0 := by
  show Ideal.ofBits .f32 0#32 = 0
  simp [Ideal.ofBits, Ideal.ieee]

/-- The contents the arrays are computed from: the arguments and what the quantiser leaves. -/
structure Inputs (V0 : Valuation τ sig (Elt Ideal)) (a : Args) : Prop where
  q : ∀ b s kh d, V0 (Proc.tc.devRef main_arg0) (ix4 b s kh d) = a.q b s kh d
  k : ∀ b s kh d, V0 (Proc.tc.devRef main_arg1) (ix4 b s kh d) = a.k b s kh d
  v : ∀ b s h w, V0 (Proc.tc.devRef main_arg2) (ix4 b s h w) = a.v b s h w
  g : ∀ b s h, V0 (Proc.tc.devRef main_arg3) (ix3 b s h) = a.g b s h
  beta : ∀ b s h, V0 (Proc.tc.devRef main_arg4) (ix3 b s h) = a.beta b s h
  s : ∀ b h d w, V0 (Proc.tc.devRef main_arg5) (ix4 b h d w) = a.s b h d w
  kv : ∀ (b : Fin 3) (n : Fin 8) (kh : Fin 10) (i : Fin 64) (d : Fin 128),
    V0 (Proc.tc.devRef main_v8_1) (ix2 ⟨b.val * 80 + n.val * 10 + kh.val, by omega⟩ ⟨i.val * 128 + d.val, by omega⟩) = ((Args.codes a.k b n i kh d : ℝ) : EReal)
  ks : ∀ (b : Fin 3) (n : Fin 8) (kh : Fin 10),
    V0 (Proc.tc.devRef main_v8_2) (ix2 ⟨b.val * 80 + n.val * 10 + kh.val, by omega⟩ 0) = ((Args.scale a.k b n kh : ℝ) : EReal)
  qv : ∀ (b : Fin 3) (n : Fin 8) (kh : Fin 10) (i : Fin 64) (d : Fin 128),
    V0 (Proc.tc.devRef main_v8_4) (ix2 ⟨b.val * 80 + n.val * 10 + kh.val, by omega⟩ ⟨i.val * 128 + d.val, by omega⟩) = ((Args.codes a.q b n i kh d : ℝ) : EReal)
  qs : ∀ (b : Fin 3) (n : Fin 8) (kh : Fin 10),
    V0 (Proc.tc.devRef main_v8_5) (ix2 ⟨b.val * 80 + n.val * 10 + kh.val, by omega⟩ 0) = ((Args.scale a.q b n kh : ℝ) : EReal)

section

variable {V0 : Valuation τ sig (Elt Ideal)} {a : Args} (hin : Inputs V0 a) (hr : a.Real)
  (b : Fin 3) (n : Fin 8) (kh : Fin 10) (r : Fin 2) (i j : Fin 64) (d : Fin 128) (w : Fin 256)
include hin

/-- The key codes as float32. -/
theorem kcodes : res_main_v16 V0 (ix5 b n i kh d) = ((Args.codes a.k b n i kh d : ℝ) : EReal) := by
  rw [← hin.kv]
  pointwise [res_main_v16]
/-- The query codes as float32. -/
theorem qcodes : res_main_v18 V0 (ix5 b n i kh d) = ((Args.codes a.q b n i kh d : ℝ) : EReal) := by
  rw [← hin.qv]
  pointwise [res_main_v18]
/-- The key scales. -/
theorem kscale : res_main_v19 V0 (ix3 b n kh) = ((Args.scale a.k b n kh : ℝ) : EReal) := by
  rw [← hin.ks]
  pointwise [res_main_v19]
/-- The query scales. -/
theorem qscale : res_main_v20 V0 (ix3 b n kh) = ((Args.scale a.q b n kh : ℝ) : EReal) := by
  rw [← hin.qs]
  pointwise [res_main_v20]

include hr

/-- The inverse norms of the keys. -/
theorem knorm : res_main_v29 V0 (ix4 b n i kh) = ((Args.norm a.k b n i kh : ℝ) : EReal) := by
  pointwise [res_main_v29, res_main_v21]
  simp only [hin.k, tok_eq]
  have h : ∀ x, a.k b (tok n i) kh x = (((a.k b (tok n i) kh x).toReal : ℝ) : EReal) := fun x =>
    (coe_toReal_of ((hr.k b (tok n i) kh x).imp fun _ h => h.1)).symm
  rw [Args.norm, ← div_sqrt_row, EReal.coe_add, coe_sum, eps_coe]
  simp only [EReal.coe_mul, ← h]
/-- The inverse norms of the queries. -/
theorem qnorm : res_main_v38 V0 (ix4 b n i kh) = ((Args.norm a.q b n i kh : ℝ) : EReal) := by
  pointwise [res_main_v38, res_main_v30]
  simp only [hin.q, tok_eq]
  have h : ∀ x, a.q b (tok n i) kh x = (((a.q b (tok n i) kh x).toReal : ℝ) : EReal) := fun x =>
    (coe_toReal_of ((hr.q b (tok n i) kh x).imp fun _ h => h.1)).symm
  rw [Args.norm, ← div_sqrt_row, EReal.coe_add, coe_sum, eps_coe]
  simp only [EReal.coe_mul, ← h]

/-- The normalised keys, chunks first. -/
theorem keys : res_main_v45 V0 (ix5 n b kh i d)
    = ((Args.codes a.k b n i kh d * Args.scale a.k b n kh * Args.norm a.k b n i kh : ℝ) : EReal) := by
  rw [EReal.coe_mul, EReal.coe_mul, ← kcodes hin, ← kscale hin, ← knorm hin hr]
  pointwise [res_main_v45]
/-- The inverse norms of the keys, chunks first. -/
theorem knorm' : res_main_v55 V0 (ix4 n b kh i) = ((Args.norm a.k b n i kh : ℝ) : EReal) := by
  have h := knorm hin hr b n kh i
  unfold res_main_v55
  generalize res_main_v29 V0 = X at h ⊢
  rw [← h]
  pointwise
/-- The key scales, chunks first. -/
theorem kscale' : res_main_v58 V0 (ix5 n b kh 0 0) = ((Args.scale a.k b n kh : ℝ) : EReal) := by
  have h := kscale hin b n kh
  unfold res_main_v58
  generalize res_main_v19 V0 = X at h ⊢
  rw [← h]
  pointwise
/-- The betas, chunks first. -/
theorem betas : res_main_v86 V0 (ix5 n b kh r i) = (((a.beta b (tok n i) (head kh r)).toReal : ℝ) : EReal) := by
  rw [coe_toReal_of (hr.beta _ _ _), ← hin.beta, ← tok_eq n i (by omega)]
  pointwise [res_main_v86]
end

end Cert.ReferenceIdeal.Stages

end
-- ==== Proof.RefWindow.lean ====
/- The running sum of a chunk: a window of 64 positions, padded below, ending at the position it is read at. -/
module

public import proofs.«01_k».proof.Proof.Gen.ReferenceIdeal
public import Idealize.ShloMosaic.Lib.Pipeline.ValueKit

@[expose] public section

set_option maxRecDepth 16384

noncomputable section

namespace Cert.ReferenceIdeal.Stages

open Cert.ReferenceIdeal Cert.ReferenceIdeal.Gen Idealize.ShloMosaic

/-- A left fold of sums is a sum. -/
theorem foldl_sum {N : ℕ} (f : Fin N → EReal) (g : EReal → Fin N → EReal) (hg : ∀ x n, g x n = x + f n) :
    (List.finRange N).foldl g 0 = ∑ n, f n := by
  have h : ∀ (l : List (Fin N)) (x : EReal), l.foldl g x = x + (l.map f).sum := fun l => by
    induction l with
    | nil => intro x; simp
    | cons n l ih => intro x; rw [List.foldl_cons, ih, hg, List.map_cons, List.sum_cons, add_assoc]
  rw [h, zero_add, Fin.sum_univ_def]

/-- The window of one position but for the last axis. -/
abbrev win : Shape := ⟨5, ![1, 1, 1, 1, 64]⟩

/-- A position of the window by its number. -/
theorem win_last : ∀ n : Fin win.numel, (win.rowMajor.symm n 4).val = n.val := by decide +kernel
/-- The window has 64 positions. -/
theorem win_numel : win.numel = 64 := by decide +kernel
/-- A number of a position of the window is below 64. -/
theorem win_lt (n : Fin win.numel) : n.val < 64 := lt_of_lt_of_eq n.isLt win_numel

/-- Summing over the window is summing over the positions. -/
theorem sum_window (i : Fin 64) (f : Fin 64 → EReal) :
    (∑ n : Fin win.numel, if h : 63 ≤ i.val + n.val then f ⟨i.val + n.val - 63, by have := win_lt n; omega⟩ else 0)
      = ∑ j : Fin 64, if j ≤ i then f j else 0 := by
  have e : (∑ n : Fin win.numel, if h : 63 ≤ i.val + n.val then f ⟨i.val + n.val - 63, by have := win_lt n; omega⟩ else 0)
      = ∑ n : Fin 64, if h : 63 ≤ i.val + n.val then f ⟨i.val + n.val - 63, by omega⟩ else 0 :=
    Fintype.sum_equiv (finCongr win_numel) _ _ fun n => rfl
  rw [e, ← Fintype.sum_equiv Fin.revPerm (fun n : Fin 64 => if h : n.val ≤ i.val then f ⟨i.val - n.val, by omega⟩ else 0) _ fun n => by
    simp only [Fin.revPerm_apply, Fin.val_rev]
    by_cases h : n.val ≤ i.val
    · rw [dif_pos h, dif_pos (by omega)]
      congr 1
      exact Fin.ext (by simp only []; omega)
    · rw [dif_neg h, dif_neg (by omega)]]
  rw [← Finset.sum_filter_of_ne (p := fun n : Fin 64 => n.val ≤ i.val) (fun n _ h => by
    by_contra hn; exact h (dif_neg hn)), ← Finset.sum_filter]
  refine Finset.sum_bij' (fun n _ => (⟨i.val - n.val, by omega⟩ : Fin 64)) (fun n _ => (⟨i.val - n.val, by omega⟩ : Fin 64)) ?_ ?_ ?_ ?_ ?_
  · intro n _; rw [Finset.mem_filter, Fin.le_def]; exact ⟨Finset.mem_univ _, Nat.sub_le _ _⟩
  · intro n _; rw [Finset.mem_filter]; exact ⟨Finset.mem_univ _, Nat.sub_le _ _⟩
  · intro n h; rw [Finset.mem_filter] at h; exact Fin.ext (by have := h.2; simp only []; omega)
  · intro n h; rw [Finset.mem_filter, Fin.le_def] at h; exact Fin.ext (by have := h.2; simp only []; omega)
  · intro n h; rw [Finset.mem_filter] at h; rw [dif_pos h.2]

/-- The window's sum is the sum over the positions up to the one it is read at. -/
theorem window_sum (X : FVec Ideal S8x3x10x2x64 .f32) (n : Fin 8) (b : Fin 3) (kh : Fin 10) (r : Fin 2) (i : Fin 64) :
    Host.reduceWindowAdd ![1, 1, 1, 1, 64] ![1, 1, 1, 1, 1] ![0, 0, 0, 0, 63] ![0, 0, 0, 0, 0] X
      (broadcastInDim S_ ![] bcast_S_S_ (constant (F := Ideal) S_ .f32 0x00000000#32))
      reduceWindows_S8x3x10x2x64_S8x3x10x2x64_w1s1p0_0_w1s1p0_0_w1s1p0_0_w1s1p0_0_w64s1p63_0 h_S_ (ix5 n b kh r i)
    = ∑ j : Fin 64, if j ≤ i then X (ix5 n b kh r j) else 0 := by
  have h0 : (broadcastInDim S_ ![] bcast_S_S_ (constant (F := Ideal) S_ .f32 0x00000000#32)) (Shape.Idx.first h_S_) = (0 : EReal) := by
    show Ideal.ofBits .f32 0#32 = 0
    simp [Ideal.ofBits, Ideal.ieee]
  refine Eq.trans ?_ (sum_window i fun j => X (ix5 n b kh r j))
  show Host.reduceWindow (· + ·) ![1, 1, 1, 1, 64] ![1, 1, 1, 1, 1] ![0, 0, 0, 0, 63] ![0, 0, 0, 0, 0] X
    (fun _ : (⟨0, ![]⟩ : Shape).Idx => (broadcastInDim S_ ![] bcast_S_S_ (constant (F := Ideal) S_ .f32 0x00000000#32)) (Shape.Idx.first h_S_))
    reduceWindows_S8x3x10x2x64_S8x3x10x2x64_w1s1p0_0_w1s1p0_0_w1s1p0_0_w1s1p0_0_w64s1p63_0 (by decide) _ = _
  rw [h0]
  unfold Host.reduceWindow
  refine foldl_sum _ _ fun x k => congrArg (x + ·) ?_
  dsimp only
  have hk : k.val < 64 := lt_of_lt_of_eq k.isLt win_numel
  have w4 : (win.rowMajor.symm k 4).val = k.val := win_last k
  have w0 : ((win.rowMajor.symm k 0).val = 0 ∧ (win.rowMajor.symm k 1).val = 0) ∧ (win.rowMajor.symm k 2).val = 0 ∧ (win.rowMajor.symm k 3).val = 0 :=
    ⟨⟨Nat.lt_one_iff.1 (win.rowMajor.symm k 0).isLt, Nat.lt_one_iff.1 (win.rowMajor.symm k 1).isLt⟩,
      Nat.lt_one_iff.1 (win.rowMajor.symm k 2).isLt, Nat.lt_one_iff.1 (win.rowMajor.symm k 3).isLt⟩
  obtain ⟨⟨a0, a1⟩, a2, a3⟩ := w0
  split
  · next hin =>
    have h4 := hin 4
    change 63 ≤ i.val * 1 + (win.rowMajor.symm k 4).val ∧ i.val * 1 + (win.rowMajor.symm k 4).val - 63 < 64 at h4
    rw [w4] at h4
    rw [dif_pos (by omega)]
    refine congrArg X (funext fun a => Fin.ext ?_)
    match a with
    | ⟨0, _⟩ => show n.val * 1 + (win.rowMajor.symm k 0).val - 0 = n.val; omega
    | ⟨1, _⟩ => show b.val * 1 + (win.rowMajor.symm k 1).val - 0 = b.val; omega
    | ⟨2, _⟩ => show kh.val * 1 + (win.rowMajor.symm k 2).val - 0 = kh.val; omega
    | ⟨3, _⟩ => show r.val * 1 + (win.rowMajor.symm k 3).val - 0 = r.val; omega
    | ⟨4, _⟩ => show i.val * 1 + (win.rowMajor.symm k 4).val - 63 = i.val + k.val - 63; omega
  · next hin =>
    rw [dif_neg fun hle => hin fun a => by
      match a with
      | ⟨0, _⟩ => show 0 ≤ n.val * 1 + (win.rowMajor.symm k 0).val ∧ n.val * 1 + (win.rowMajor.symm k 0).val - 0 < 8; omega
      | ⟨1, _⟩ => show 0 ≤ b.val * 1 + (win.rowMajor.symm k 1).val ∧ b.val * 1 + (win.rowMajor.symm k 1).val - 0 < 3; omega
      | ⟨2, _⟩ => show 0 ≤ kh.val * 1 + (win.rowMajor.symm k 2).val ∧ kh.val * 1 + (win.rowMajor.symm k 2).val - 0 < 10; omega
      | ⟨3, _⟩ => show 0 ≤ r.val * 1 + (win.rowMajor.symm k 3).val ∧ r.val * 1 + (win.rowMajor.symm k 3).val - 0 < 2; omega
      | ⟨4, _⟩ => show 63 ≤ i.val * 1 + (win.rowMajor.symm k 4).val ∧ i.val * 1 + (win.rowMajor.symm k 4).val - 63 < 64; omega]

end Cert.ReferenceIdeal.Stages

end
-- ==== Proof.RefGates.lean ====
/- The reference's running gate sums, decays and strictly lower triangular matrices, read at an index. -/
module

public import proofs.«01_k».proof.Proof.RefStages
public import proofs.«01_k».proof.Proof.RefWindow
public import Idealize.ShloMosaic.Lib.Pipeline.ValueKit

@[expose] public section

set_option maxRecDepth 16384

noncomputable section

namespace Cert.ReferenceIdeal.Stages

open Cert.ReferenceIdeal Cert.ReferenceIdeal.Gen Cert.ReferenceIdeal.Value Idealize.ShloMosaic Idealize.ShloMosaic.TcCoe Idealize.SL.Sem Cert.Chunk

section

variable {V0 : Valuation τ sig (Elt Ideal)} {a : Args} (hin : Inputs V0 a) (hr : a.Real)
  (b : Fin 3) (n : Fin 8) (kh : Fin 10) (r : Fin 2) (i j : Fin 64) (d : Fin 128) (w : Fin 256)
include hin hr

/-- The running sums of the gates. -/
theorem gates : res_main_v87 V0 (ix5 n b kh r i) = ((a.gates b n (head kh r) i : ℝ) : EReal) := by
  have h : ∀ j : Fin 64, transpose S8x3x10x2x64 [1, 0, 3, 4, 2] (shapeCast _ (V0 (Proc.tc.devRef main_arg3)) shapeCasts_S3x512x20_S3x8x64x10x2)
      transposes_S3x8x64x10x2_S8x3x10x2x64_1_0_3_4_2 (ix5 n b kh r j) = (((a.g b (tok n j) (head kh r)).toReal : ℝ) : EReal) := fun j => by
    rw [coe_toReal_of (hr.g _ _ _), ← hin.g, ← tok_eq n j (by omega)]
    pointwise
  refine (window_sum _ n b kh r i).trans ?_
  rw [Args.gates, coe_sum]
  refine Finset.sum_congr rfl fun j _ => ?_
  rw [h]
  split <;> rfl

/-- The decays from one position to another. -/
theorem decay (S : Fin 128 → Fin 256 → ℝ) : res_main_v106 V0 (ix6 n b kh r i j) = (((a.chunk b (head kh r) n S).E i j : ℝ) : EReal) := by
  have hc : IntOp.cmpi CmpIPredicate.sge (BitVec.ofNat 32 i.val) (BitVec.ofNat 32 j.val) = if j ≤ i then 1#1 else 0#1 :=
    (by decide +kernel : ∀ i j : Fin 64, IntOp.cmpi CmpIPredicate.sge (BitVec.ofNat 32 i.val) (BitVec.ofNat 32 j.val) = if j ≤ i then 1#1 else 0#1) i j
  have hG := gates hin hr b n kh r
  unfold res_main_v106 res_main_v93 res_main_v88
  generalize res_main_v87 V0 = X at hG ⊢
  pointwise
  rw [hc, zero_word, hG, hG, Data.E]
  by_cases h : j ≤ i
  · simp only [if_pos h]
    have s1 : ∀ x y : EReal, Scalar.select 1#1 x y = x := fun _ _ => rfl
    rw [s1, s1, ← EReal.coe_sub]
    rfl
  · simp only [if_neg h]
    rfl

/-- The strictly lower triangular matrices. -/
theorem lower (S : Fin 128 → Fin 256 → ℝ) : res_main_v113 V0 (ix6 n b kh r i j) = (((a.chunk b (head kh r) n S).A i j : ℝ) : EReal) := by
  have hc : IntOp.cmpi CmpIPredicate.sgt (BitVec.ofNat 32 i.val) (BitVec.ofNat 32 j.val) = if j < i then 1#1 else 0#1 :=
    (by decide +kernel : ∀ i j : Fin 64, IntOp.cmpi CmpIPredicate.sgt (BitVec.ofNat 32 i.val) (BitVec.ofNat 32 j.val) = if j < i then 1#1 else 0#1) i j
  have h16 := kcodes hin b n kh
  have h55 := knorm' hin hr b n kh
  have h58 := kscale' hin hr b n kh
  have h86 := betas hin hr b n kh r
  have h106 := decay hin hr b n kh r i j S
  unfold res_main_v113 res_main_v88
  generalize res_main_v16 V0 = X16 at h16 ⊢
  generalize res_main_v55 V0 = X55 at h55 ⊢
  generalize res_main_v58 V0 = X58 at h58 ⊢
  generalize res_main_v86 V0 = X86 at h86 ⊢
  generalize res_main_v106 V0 = X106 at h106 ⊢
  pointwise
  simp only [hc, zero_word, h16, h55, h58, h86, h106, ← EReal.coe_mul, ← coe_sum]
  rw [Data.A, Matrix.of_apply]
  by_cases h : j < i
  · simp only [if_pos h]
    show ((_ : ℝ) : EReal) = _
    congr 1
    simp only [Args.chunk, Data.KK, keyHead_head]
  · simp only [if_neg h]
    rfl

end

end Cert.ReferenceIdeal.Stages

end
-- ==== Proof.RefInverse.lean ====
/- The reference's inverses by repeated squaring and the arrays its scan reads, at an index. -/
module

public import proofs.«01_k».proof.Proof.RefGates
public import Idealize.ShloMosaic.Lib.Pipeline.ValueKit

@[expose] public section

set_option maxRecDepth 16384

noncomputable section

namespace Cert.ReferenceIdeal.Stages

open Cert.ReferenceIdeal Cert.ReferenceIdeal.Gen Cert.ReferenceIdeal.Value Idealize.ShloMosaic Idealize.ShloMosaic.TcCoe Idealize.SL.Sem Cert.Chunk

/-- A batch of matrix products is the product of the matrices. -/
theorem product (X Y : FVec Ideal S8x3x10x2x64x64 .f32) (n : Fin 8) (b : Fin 3) (kh : Fin 10) (r : Fin 2) (M N : Matrix (Fin 64) (Fin 64) ℝ)
    (hX : ∀ i j, X (ix6 n b kh r i j) = ((M i j : ℝ) : EReal)) (hY : ∀ i j, Y (ix6 n b kh r i j) = ((N i j : ℝ) : EReal)) (i j : Fin 64) :
    Host.dotGeneral dot_S8x3x10x2x64x64_S8x3x10x2x64x64_S8x3x10x2x64x64_5_4_4_5_0123_0123 (some .fp32) X Y (ix6 n b kh r i j)
      = (((M * N) i j : ℝ) : EReal) := by
  pointwise
  simp only [hX, hY, ← EReal.coe_mul, ← coe_sum]
  rfl

/-- One step of the doubling: a matrix plus its product with another. -/
theorem doubled (X Y : FVec Ideal S8x3x10x2x64x64 .f32) (n : Fin 8) (b : Fin 3) (kh : Fin 10) (r : Fin 2) (M N : Matrix (Fin 64) (Fin 64) ℝ)
    (hX : ∀ i j, X (ix6 n b kh r i j) = ((M i j : ℝ) : EReal)) (hY : ∀ i j, Y (ix6 n b kh r i j) = ((N i j : ℝ) : EReal)) (i j : Fin 64) :
    addf X (Host.dotGeneral dot_S8x3x10x2x64x64_S8x3x10x2x64x64_S8x3x10x2x64x64_5_4_4_5_0123_0123 (some .fp32) X Y) (ix6 n b kh r i j)
      = (((M + M * N) i j : ℝ) : EReal) := by
  show X (ix6 n b kh r i j) + Host.dotGeneral dot_S8x3x10x2x64x64_S8x3x10x2x64x64_S8x3x10x2x64x64_5_4_4_5_0123_0123 (some .fp32) X Y (ix6 n b kh r i j) = _
  rw [product X Y n b kh r M N hX hY, hX, ← EReal.coe_add]
  rfl

section

variable {V0 : Valuation τ sig (Elt Ideal)} {a : Args} (hin : Inputs V0 a) (hr : a.Real)
  (b : Fin 3) (n : Fin 8) (kh : Fin 10) (r : Fin 2) (i j : Fin 64) (d : Fin 128) (w : Fin 256) (S : Fin 128 → Fin 256 → ℝ)
include hin hr

/-- What the doubling starts with: the identity less the matrix. -/
theorem start : res_main_v122 V0 (ix6 n b kh r i j) = (((1 - (a.chunk b (head kh r) n S).A) i j : ℝ) : EReal) := by
  have hc : FloatOps.uitofp (F := Ideal) FTy.f32 (IntOp.cmpi CmpIPredicate.eq (IntOp.addi (BitVec.ofNat 32 i.val) 0#32) (BitVec.ofNat 32 j.val))
      = (((1 : Matrix (Fin 64) (Fin 64) ℝ) i j : ℝ) : EReal) := by
    have h := (by decide +kernel : ∀ i j : Fin 64, (IntOp.cmpi CmpIPredicate.eq (IntOp.addi (BitVec.ofNat 32 i.val) 0#32) (BitVec.ofNat 32 j.val)).toNat = if i = j then 1 else 0) i j
    show (((IntOp.cmpi CmpIPredicate.eq (IntOp.addi (BitVec.ofNat 32 i.val) 0#32) (BitVec.ofNat 32 j.val)).toNat : ℝ) : EReal) = _
    rw [h, Matrix.one_apply]
    split <;> simp
  have hA := lower hin hr b n kh r i j S
  unfold res_main_v122
  generalize res_main_v113 V0 = X at hA ⊢
  pointwise
  rw [hc, hA, ← EReal.coe_sub]
  rfl

/-- What the squarings and the doublings end with is the inverse. -/
theorem inverse : res_main_v137 V0 (ix6 n b kh r i j) = (((a.chunk b (head kh r) n S).T i j : ℝ) : EReal) := by
  have hA := fun i j => lower hin hr b n kh r i j S
  have h0 := fun i j => start hin hr b n kh r i j S
  have p1 := product _ _ n b kh r _ _ hA hA
  have t1 := doubled _ _ n b kh r _ _ h0 p1
  have p2 := product _ _ n b kh r _ _ p1 p1
  have t2 := doubled _ _ n b kh r _ _ t1 p2
  have p3 := product _ _ n b kh r _ _ p2 p2
  have t3 := doubled _ _ n b kh r _ _ t2 p3
  have p4 := product _ _ n b kh r _ _ p3 p3
  have t4 := doubled _ _ n b kh r _ _ t3 p4
  have p5 := product _ _ n b kh r _ _ p4 p4
  have t5 := doubled _ _ n b kh r _ _ t4 p5
  rw [← Data.eq_T _ (Linear.doubling_inverse (a.chunk b (head kh r) n S).A_strict rfl rfl rfl rfl rfl rfl rfl rfl rfl rfl rfl)]
  exact t5 i j

/-- The exponentials of the running sums of the gates. -/
theorem growth : res_main_v138 V0 (ix5 n b kh r i) = ((Real.exp (a.gates b n (head kh r) i) : ℝ) : EReal) := by
  have h := gates hin hr b n kh r i
  unfold res_main_v138
  generalize res_main_v87 V0 = X at h ⊢
  show Ideal.exp (X (ix5 n b kh r i)) = _
  rw [h]
  rfl

/-- The inverse applied to the keys, weighted by betas and decays. -/
theorem solved_keys : res_main_v145 V0 (ix6 n b kh r i d)
    = ((∑ x, (a.chunk b (head kh r) n S).T i x * ((a.chunk b (head kh r) n S).b x * Real.exp ((a.chunk b (head kh r) n S).G x)
        * (a.chunk b (head kh r) n S).kn x d) : ℝ) : EReal) := by
  have h1 := fun x => inverse hin hr b n kh r i x S
  have h2 := betas hin hr b n kh r
  have h3 := growth hin hr b n kh r
  have h4 := keys hin hr b n kh
  unfold res_main_v145
  generalize res_main_v137 V0 = X1 at h1 ⊢
  generalize res_main_v86 V0 = X2 at h2 ⊢
  generalize res_main_v138 V0 = X3 at h3 ⊢
  generalize res_main_v45 V0 = X4 at h4 ⊢
  pointwise
  simp only [h1, h2, h3, h4, ← EReal.coe_mul, ← coe_sum]
  simp only [Args.chunk, Data.kn, keyHead_head]

/-- The inverse applied to the values, weighted by betas. -/
theorem solved_values : res_main_v152 V0 (ix6 n b kh r i w)
    = ((∑ x, (a.chunk b (head kh r) n S).T i x * ((a.chunk b (head kh r) n S).v x w * (a.chunk b (head kh r) n S).b x) : ℝ) : EReal) := by
  have h1 := fun x => inverse hin hr b n kh r i x S
  have h2 : ∀ x, V0 (Proc.tc.devRef main_arg2) (ix4 b ⟨n.val * 64 + x.val, by omega⟩ (head kh r) w) = (((a.chunk b (head kh r) n S).v x w : ℝ) : EReal) := fun x => by
    rw [hin.v, tok_eq]; exact (coe_toReal_of (hr.v _ _ _ _)).symm
  have h3 : ∀ x, V0 (Proc.tc.devRef main_arg4) (ix3 b ⟨n.val * 64 + x.val, by omega⟩ (head kh r)) = (((a.chunk b (head kh r) n S).b x : ℝ) : EReal) := fun x => by
    rw [hin.beta, tok_eq]; exact (coe_toReal_of (hr.beta _ _ _)).symm
  unfold res_main_v152
  generalize res_main_v137 V0 = X1 at h1 ⊢
  generalize V0 (Proc.tc.devRef main_arg2) = X2 at h2 ⊢
  generalize V0 (Proc.tc.devRef main_arg4) = X3 at h3 ⊢
  pointwise
  simp only [h1, h2, h3, ← EReal.coe_mul, ← coe_sum]

/-- The decayed products of queries with keys. -/
theorem attention : res_main_v155 V0 (ix6 n b kh r i j)
    = (((a.chunk b (head kh r) n S).QK i j * ((a.chunk b (head kh r) n S).sq * (a.chunk b (head kh r) n S).sk) * (a.chunk b (head kh r) n S).rq i
        * (a.chunk b (head kh r) n S).rk j * root * (a.chunk b (head kh r) n S).E i j : ℝ) : EReal) := by
  have h1 := qcodes hin b n kh i
  have h2 := kcodes hin b n kh j
  have h3 := qscale hin b n kh
  have h4 := kscale' hin hr b n kh
  have h5 := qnorm hin hr b n kh i
  have h6 := knorm' hin hr b n kh j
  have h7 := decay hin hr b n kh r i j S
  unfold res_main_v155
  generalize res_main_v18 V0 = X1 at h1 ⊢
  generalize res_main_v16 V0 = X2 at h2 ⊢
  generalize res_main_v20 V0 = X3 at h3 ⊢
  generalize res_main_v58 V0 = X4 at h4 ⊢
  generalize res_main_v38 V0 = X5 at h5 ⊢
  generalize res_main_v55 V0 = X6 at h6 ⊢
  generalize res_main_v106 V0 = X7 at h7 ⊢
  pointwise
  simp only [h1, h2, h3, h4, h5, h6, h7, root_coe, ← EReal.coe_mul, ← coe_sum]
  simp only [Args.chunk, Data.QK, Data.E, keyHead_head]

/-- The queries weighted by the decay from the chunk's start. -/
theorem grown_queries : res_main_v160 V0 (ix6 n b kh r i d)
    = ((Real.exp ((a.chunk b (head kh r) n S).G i) * ((a.chunk b (head kh r) n S).qc i d * (a.chunk b (head kh r) n S).sq
        * (a.chunk b (head kh r) n S).rq i * root) : ℝ) : EReal) := by
  have h1 := qcodes hin b n kh i d
  have h2 := growth hin hr b n kh r i
  have h3 := qscale hin b n kh
  have h5 := qnorm hin hr b n kh i
  unfold res_main_v160
  generalize res_main_v18 V0 = X1 at h1 ⊢
  generalize res_main_v138 V0 = X2 at h2 ⊢
  generalize res_main_v20 V0 = X3 at h3 ⊢
  generalize res_main_v38 V0 = X5 at h5 ⊢
  pointwise
  simp only [h1, h2, h3, h5, root_coe, ← EReal.coe_mul]
  simp only [Args.chunk, keyHead_head]

/-- The keys weighted by the decay to the chunk's end. -/
theorem decayed_keys : res_main_v169 V0 (ix6 n b kh r i d)
    = ((Real.exp ((a.chunk b (head kh r) n S).G 63 - (a.chunk b (head kh r) n S).G i) * (a.chunk b (head kh r) n S).kn i d : ℝ) : EReal) := by
  have h1 := gates hin hr b n kh r
  have h4 := keys hin hr b n kh i d
  have he : ∀ x : ℝ, Ideal.exp (x : EReal) = ((Real.exp x : ℝ) : EReal) := fun _ => rfl
  unfold res_main_v169
  generalize res_main_v87 V0 = X1 at h1 ⊢
  generalize res_main_v45 V0 = X4 at h4 ⊢
  pointwise
  simp only [h1, h4, he, ← EReal.coe_sub, ← EReal.coe_mul]
  simp only [Args.chunk, Data.kn, keyHead_head]

/-- The decay of a whole chunk. -/
theorem last_growth : res_main_v172 V0 (ix4 n b kh r) = ((Real.exp ((a.chunk b (head kh r) n S).G 63) : ℝ) : EReal) := by
  have h1 := gates hin hr b n kh r
  have he : ∀ x : ℝ, Ideal.exp (x : EReal) = ((Real.exp x : ℝ) : EReal) := fun _ => rfl
  unfold res_main_v172
  generalize res_main_v87 V0 = X1 at h1 ⊢
  pointwise
  simp only [h1, he]
  simp only [Args.chunk]

/-- The state before the first chunk. -/
theorem first_state : res_main_v173 V0 (ix5 b kh r d w) = ((a.stateAt b (head kh r) 0 d w : ℝ) : EReal) := by
  have h : V0 (Proc.tc.devRef main_arg5) (ix4 b (head kh r) d w) = ((a.stateAt b (head kh r) 0 d w : ℝ) : EReal) := by
    rw [hin.s]; exact (coe_toReal_of (hr.s _ _ _ _)).symm
  unfold res_main_v173
  generalize V0 (Proc.tc.devRef main_arg5) = X at h ⊢
  rw [← h]
  pointwise

end

end Cert.ReferenceIdeal.Stages

end
-- ==== Proof.RefScan.lean ====
/- The reference's scan over the chunks: the corrected values, the states and the outputs, at an index. -/
module

public import proofs.«01_k».proof.Proof.RefInverse
public import Idealize.ShloMosaic.Lib.Pipeline.ValueKit

@[expose] public section

set_option maxRecDepth 16384

noncomputable section

namespace Cert.ReferenceIdeal.Stages

open Cert.ReferenceIdeal Cert.ReferenceIdeal.Gen Cert.ReferenceIdeal.Value Idealize.ShloMosaic Idealize.ShloMosaic.TcCoe Idealize.SL.Sem Cert.Chunk

/-- Solving for the values and for the keys apart gives the corrected values. -/
theorem corrected_eq (c : Data) (i : Fin 64) (w : Fin 256) :
    ∑ x, c.T i x * (c.v x w * c.b x) - ∑ d, (∑ x, c.T i x * (c.b x * Real.exp (c.G x) * c.kn x d)) * c.S d w = c.vnew i w := by
  have h : ∑ d, (∑ x, c.T i x * (c.b x * Real.exp (c.G x) * c.kn x d)) * c.S d w
      = ∑ x, c.T i x * (c.b x * Real.exp (c.G x) * ∑ d, c.kn x d * c.S d w) := by
    simp only [Finset.sum_mul, Finset.mul_sum]
    rw [Finset.sum_comm]
    exact Finset.sum_congr rfl fun x _ => Finset.sum_congr rfl fun d _ => by ring
  rw [h, ← Finset.sum_sub_distrib]
  exact Finset.sum_congr rfl fun x _ => by rw [Data.rhs]; ring

section

variable {V0 : Valuation τ sig (Elt Ideal)} {a : Args} (hin : Inputs V0 a) (hr : a.Real)
  (b : Fin 3) (kh : Fin 10) (r : Fin 2)

/-- The chunk a value head reaches with the state before it. -/
abbrev atChunk (a : Args) (b : Fin 3) (kh : Fin 10) (r : Fin 2) (n : Fin 8) : Data := a.chunk b (head kh r) n (a.stateAt b (head kh r) n.val)

include hin hr

/-- One step's corrected values. -/
theorem corrected (n : Fin 8) (Sv : FVec Ideal S3x10x2x128x256 .f32) (D : FVec Ideal S3x10x2x64x256 .f32)
    (hS : ∀ d w, Sv (ix5 b kh r d w) = ((a.stateAt b (head kh r) n.val d w : ℝ) : EReal))
    (hD : ∀ (Y : FVec Ideal S8x3x10x2x64x256 .f32) (Z : FVec Ideal S8x3x10x2x64x128 .f32), Y = res_main_v152 V0 → Z = res_main_v145 V0 → ∀ i w,
      D (ix5 b kh r i w) = Y (ix6 n b kh r i w) - ∑ x : Fin 128, Z (ix6 n b kh r i x) * Sv (ix5 b kh r x w)) (i : Fin 64) (w : Fin 256) :
    D (ix5 b kh r i w) = (((atChunk a b kh r n).vnew i w : ℝ) : EReal) := by
  have h1 := solved_values hin hr b n kh r i w (a.stateAt b (head kh r) n.val)
  have h2 := fun x => solved_keys hin hr b n kh r i x (a.stateAt b (head kh r) n.val)
  have h3 := hD _ _ rfl rfl i w
  generalize res_main_v152 V0 = Y at h1 h3
  generalize res_main_v145 V0 = Z at h2 h3
  rw [h3, h1, ← corrected_eq]
  simp only [h2, hS, ← EReal.coe_mul, ← coe_sum, ← EReal.coe_sub]
  rfl

/-- One step's new state. -/
theorem advanced (n : Fin 8) (Sv Nx : FVec Ideal S3x10x2x128x256 .f32) (D : FVec Ideal S3x10x2x64x256 .f32)
    (hS : ∀ d w, Sv (ix5 b kh r d w) = ((a.stateAt b (head kh r) n.val d w : ℝ) : EReal))
    (hD : ∀ i w, D (ix5 b kh r i w) = (((atChunk a b kh r n).vnew i w : ℝ) : EReal))
    (hN : ∀ (Y : FVec Ideal S8x3x10x2 .f32) (Z : FVec Ideal S8x3x10x2x64x128 .f32), Y = res_main_v172 V0 → Z = res_main_v169 V0 → ∀ d w,
      Nx (ix5 b kh r d w) = Y (ix4 n b kh r) * Sv (ix5 b kh r d w) + ∑ x : Fin 64, Z (ix6 n b kh r x d) * D (ix5 b kh r x w)) (d : Fin 128) (w : Fin 256) :
    Nx (ix5 b kh r d w) = ((a.stateAt b (head kh r) (n.val + 1) d w : ℝ) : EReal) := by
  have h1 := last_growth hin hr b n kh r (a.stateAt b (head kh r) n.val)
  have h2 := fun x => decayed_keys hin hr b n kh r x d (a.stateAt b (head kh r) n.val)
  have h3 := hN _ _ rfl rfl d w
  generalize res_main_v172 V0 = Y at h1 h3
  generalize res_main_v169 V0 = Z at h2 h3
  rw [h3, h1, a.stateAt_succ]
  simp only [h2, hS, hD, ← EReal.coe_mul, ← coe_sum, ← EReal.coe_add]
  rfl

/-- One step's outputs. -/
theorem answered (n : Fin 8) (Sv : FVec Ideal S3x10x2x128x256 .f32) (D : FVec Ideal S3x10x2x64x256 .f32)
    (Y : FVec Ideal S8x3x10x2x64x128 .f32) (Z : FVec Ideal S8x3x10x2x64x64 .f32) (hY : Y = res_main_v160 V0) (hZ : Z = res_main_v155 V0)
    (hS : ∀ d w, Sv (ix5 b kh r d w) = ((a.stateAt b (head kh r) n.val d w : ℝ) : EReal))
    (hD : ∀ i w, D (ix5 b kh r i w) = (((atChunk a b kh r n).vnew i w : ℝ) : EReal)) (i : Fin 64) (w : Fin 256) :
    ∑ x : Fin 128, Sv (ix5 b kh r x w) * Y (ix6 n b kh r i x) + ∑ x : Fin 64, D (ix5 b kh r x w) * Z (ix6 n b kh r i x)
      = ((a.out b n i (head kh r) w : ℝ) : EReal) := by
  have h1 := fun x => grown_queries hin hr b n kh r i x (a.stateAt b (head kh r) n.val)
  have h2 := fun x => attention hin hr b n kh r i x (a.stateAt b (head kh r) n.val)
  rw [← hY] at h1
  rw [← hZ] at h2
  simp only [h1, h2, hS, hD, ← EReal.coe_mul, ← coe_sum, ← EReal.coe_add]
  rw [Args.out, Data.out]
  refine congrArg _ (congrArg₂ (· + ·) (Finset.sum_congr rfl fun x _ => mul_comm _ _) (Finset.sum_congr rfl fun x _ => mul_comm _ _))

/-- The corrected values of chunk 0. -/
theorem corrected_0 : ∀ i w, res_main_v187 V0 (ix5 b kh r i w) = (((atChunk a b kh r 0).vnew i w : ℝ) : EReal) := by
  refine corrected hin hr b kh r 0 (res_main_v173 V0) _ (first_state hin hr b kh r) fun Y Z hY hZ i w => ?_
  unfold res_main_v187
  rw [← hY, ← hZ]
  generalize res_main_v173 V0 = X
  pointwise

/-- The state before chunk 1. -/
theorem state_1 : ∀ d w, res_main_v197 V0 (ix5 b kh r d w) = ((a.stateAt b (head kh r) 1 d w : ℝ) : EReal) := by
  refine advanced hin hr b kh r 0 (res_main_v173 V0) _ (res_main_v187 V0) (first_state hin hr b kh r) (corrected_0 hin hr b kh r) fun Y Z hY hZ d w => ?_
  unfold res_main_v197
  rw [← hY, ← hZ]
  generalize res_main_v173 V0 = X
  generalize res_main_v187 V0 = D
  pointwise

/-- The corrected values of chunk 1. -/
theorem corrected_1 : ∀ i w, res_main_v211 V0 (ix5 b kh r i w) = (((atChunk a b kh r 1).vnew i w : ℝ) : EReal) := by
  refine corrected hin hr b kh r 1 (res_main_v197 V0) _ (state_1 hin hr b kh r) fun Y Z hY hZ i w => ?_
  unfold res_main_v211
  rw [← hY, ← hZ]
  generalize res_main_v197 V0 = X
  pointwise

/-- The state before chunk 2. -/
theorem state_2 : ∀ d w, res_main_v221 V0 (ix5 b kh r d w) = ((a.stateAt b (head kh r) 2 d w : ℝ) : EReal) := by
  refine advanced hin hr b kh r 1 (res_main_v197 V0) _ (res_main_v211 V0) (state_1 hin hr b kh r) (corrected_1 hin hr b kh r) fun Y Z hY hZ d w => ?_
  unfold res_main_v221
  rw [← hY, ← hZ]
  generalize res_main_v197 V0 = X
  generalize res_main_v211 V0 = D
  pointwise

/-- The corrected values of chunk 2. -/
theorem corrected_2 : ∀ i w, res_main_v235 V0 (ix5 b kh r i w) = (((atChunk a b kh r 2).vnew i w : ℝ) : EReal) := by
  refine corrected hin hr b kh r 2 (res_main_v221 V0) _ (state_2 hin hr b kh r) fun Y Z hY hZ i w => ?_
  unfold res_main_v235
  rw [← hY, ← hZ]
  generalize res_main_v221 V0 = X
  pointwise

/-- The state before chunk 3. -/
theorem state_3 : ∀ d w, res_main_v245 V0 (ix5 b kh r d w) = ((a.stateAt b (head kh r) 3 d w : ℝ) : EReal) := by
  refine advanced hin hr b kh r 2 (res_main_v221 V0) _ (res_main_v235 V0) (state_2 hin hr b kh r) (corrected_2 hin hr b kh r) fun Y Z hY hZ d w => ?_
  unfold res_main_v245
  rw [← hY, ← hZ]
  generalize res_main_v221 V0 = X
  generalize res_main_v235 V0 = D
  pointwise

/-- The corrected values of chunk 3. -/
theorem corrected_3 : ∀ i w, res_main_v259 V0 (ix5 b kh r i w) = (((atChunk a b kh r 3).vnew i w : ℝ) : EReal) := by
  refine corrected hin hr b kh r 3 (res_main_v245 V0) _ (state_3 hin hr b kh r) fun Y Z hY hZ i w => ?_
  unfold res_main_v259
  rw [← hY, ← hZ]
  generalize res_main_v245 V0 = X
  pointwise

/-- The state before chunk 4. -/
theorem state_4 : ∀ d w, res_main_v269 V0 (ix5 b kh r d w) = ((a.stateAt b (head kh r) 4 d w : ℝ) : EReal) := by
  refine advanced hin hr b kh r 3 (res_main_v245 V0) _ (res_main_v259 V0) (state_3 hin hr b kh r) (corrected_3 hin hr b kh r) fun Y Z hY hZ d w => ?_
  unfold res_main_v269
  rw [← hY, ← hZ]
  generalize res_main_v245 V0 = X
  generalize res_main_v259 V0 = D
  pointwise

/-- The corrected values of chunk 4. -/
theorem corrected_4 : ∀ i w, res_main_v283 V0 (ix5 b kh r i w) = (((atChunk a b kh r 4).vnew i w : ℝ) : EReal) := by
  refine corrected hin hr b kh r 4 (res_main_v269 V0) _ (state_4 hin hr b kh r) fun Y Z hY hZ i w => ?_
  unfold res_main_v283
  rw [← hY, ← hZ]
  generalize res_main_v269 V0 = X
  pointwise

/-- The state before chunk 5. -/
theorem state_5 : ∀ d w, res_main_v293 V0 (ix5 b kh r d w) = ((a.stateAt b (head kh r) 5 d w : ℝ) : EReal) := by
  refine advanced hin hr b kh r 4 (res_main_v269 V0) _ (res_main_v283 V0) (state_4 hin hr b kh r) (corrected_4 hin hr b kh r) fun Y Z hY hZ d w => ?_
  unfold res_main_v293
  rw [← hY, ← hZ]
  generalize res_main_v269 V0 = X
  generalize res_main_v283 V0 = D
  pointwise

/-- The corrected values of chunk 5. -/
theorem corrected_5 : ∀ i w, res_main_v307 V0 (ix5 b kh r i w) = (((atChunk a b kh r 5).vnew i w : ℝ) : EReal) := by
  refine corrected hin hr b kh r 5 (res_main_v293 V0) _ (state_5 hin hr b kh r) fun Y Z hY hZ i w => ?_
  unfold res_main_v307
  rw [← hY, ← hZ]
  generalize res_main_v293 V0 = X
  pointwise

/-- The state before chunk 6. -/
theorem state_6 : ∀ d w, res_main_v317 V0 (ix5 b kh r d w) = ((a.stateAt b (head kh r) 6 d w : ℝ) : EReal) := by
  refine advanced hin hr b kh r 5 (res_main_v293 V0) _ (res_main_v307 V0) (state_5 hin hr b kh r) (corrected_5 hin hr b kh r) fun Y Z hY hZ d w => ?_
  unfold res_main_v317
  rw [← hY, ← hZ]
  generalize res_main_v293 V0 = X
  generalize res_main_v307 V0 = D
  pointwise

/-- The corrected values of chunk 6. -/
theorem corrected_6 : ∀ i w, res_main_v331 V0 (ix5 b kh r i w) = (((atChunk a b kh r 6).vnew i w : ℝ) : EReal) := by
  refine corrected hin hr b kh r 6 (res_main_v317 V0) _ (state_6 hin hr b kh r) fun Y Z hY hZ i w => ?_
  unfold res_main_v331
  rw [← hY, ← hZ]
  generalize res_main_v317 V0 = X
  pointwise

/-- The state before chunk 7. -/
theorem state_7 : ∀ d w, res_main_v341 V0 (ix5 b kh r d w) = ((a.stateAt b (head kh r) 7 d w : ℝ) : EReal) := by
  refine advanced hin hr b kh r 6 (res_main_v317 V0) _ (res_main_v331 V0) (state_6 hin hr b kh r) (corrected_6 hin hr b kh r) fun Y Z hY hZ d w => ?_
  unfold res_main_v341
  rw [← hY, ← hZ]
  generalize res_main_v317 V0 = X
  generalize res_main_v331 V0 = D
  pointwise

/-- The corrected values of chunk 7. -/
theorem corrected_7 : ∀ i w, res_main_v355 V0 (ix5 b kh r i w) = (((atChunk a b kh r 7).vnew i w : ℝ) : EReal) := by
  refine corrected hin hr b kh r 7 (res_main_v341 V0) _ (state_7 hin hr b kh r) fun Y Z hY hZ i w => ?_
  unfold res_main_v355
  rw [← hY, ← hZ]
  generalize res_main_v341 V0 = X
  pointwise

end

end Cert.ReferenceIdeal.Stages

end
-- ==== Proof.RefOutputs.lean ====
/- The reference's outputs and final states, at an index. -/
module

public import proofs.«01_k».proof.Proof.RefScan
public import Idealize.ShloMosaic.Lib.Pipeline.ValueKit

@[expose] public section

set_option maxRecDepth 16384

noncomputable section

namespace Cert.ReferenceIdeal.Stages

open Cert.ReferenceIdeal Cert.ReferenceIdeal.Gen Cert.ReferenceIdeal.Value Idealize.ShloMosaic Idealize.ShloMosaic.TcCoe Idealize.SL.Sem Cert.Chunk

/-- The states after the last chunk, by key head and by value head of the key head. -/
def lastState (P : FVec Ideal S8x3x10x2 .f32) (K : FVec Ideal S8x3x10x2x64x128 .f32) (S : FVec Ideal S3x10x2x128x256 .f32)
    (D : FVec Ideal S3x10x2x64x256 .f32) : FVec Ideal S3x10x2x128x256 .f32 :=
  addf (mulf (broadcastInDim S3x10x2x128x256 ![0, 1, 2, 3, 4] bcast_S3x10x2x1x1_S3x10x2x128x256_0_1_2_3_4 (broadcastInDim S3x10x2x1x1 ![0, 1, 2] bcast_S3x10x2_S3x10x2x1x1_0_1_2 (shapeCast _ (extractStridedSlice S1x3x10x2 ![7, 0, 0, 0] P slices_S8x3x10x2_S1x3x10x2_7_0_0_0) shapeCasts_S1x3x10x2_S3x10x2))) S) (Host.dotGeneral dot_S3x10x2x64x128_S3x10x2x64x256_S3x10x2x128x256_3_3_4_4_012_012 (some .fp32) (shapeCast _ (extractStridedSlice S1x3x10x2x64x128 ![7, 0, 0, 0, 0, 0] K slices_S8x3x10x2x64x128_S1x3x10x2x64x128_7_0_0_0_0_0) shapeCasts_S1x3x10x2x64x128_S3x10x2x64x128) D)

section

variable {V0 : Valuation τ sig (Elt Ideal)} {a : Args} (hin : Inputs V0 a) (hr : a.Real)
  (b : Fin 3) (kh : Fin 10) (r : Fin 2)
include hin hr

/-- The outputs, chunk by chunk. -/
theorem outputs (n : Fin 8) (i : Fin 64) (w : Fin 256) : res_main_v374 V0 (ix6 n b i kh r w) = ((a.out b n i (head kh r) w : ℝ) : EReal) := by
  have h0 := answered hin hr b kh r 0 _ _ _ _ rfl rfl (first_state hin hr b kh r) (corrected_0 hin hr b kh r) i w
  have h1 := answered hin hr b kh r 1 _ _ _ _ rfl rfl (state_1 hin hr b kh r) (corrected_1 hin hr b kh r) i w
  have h2 := answered hin hr b kh r 2 _ _ _ _ rfl rfl (state_2 hin hr b kh r) (corrected_2 hin hr b kh r) i w
  have h3 := answered hin hr b kh r 3 _ _ _ _ rfl rfl (state_3 hin hr b kh r) (corrected_3 hin hr b kh r) i w
  have h4 := answered hin hr b kh r 4 _ _ _ _ rfl rfl (state_4 hin hr b kh r) (corrected_4 hin hr b kh r) i w
  have h5 := answered hin hr b kh r 5 _ _ _ _ rfl rfl (state_5 hin hr b kh r) (corrected_5 hin hr b kh r) i w
  have h6 := answered hin hr b kh r 6 _ _ _ _ rfl rfl (state_6 hin hr b kh r) (corrected_6 hin hr b kh r) i w
  have h7 := answered hin hr b kh r 7 _ _ _ _ rfl rfl (state_7 hin hr b kh r) (corrected_7 hin hr b kh r) i w
  unfold res_main_v374
  generalize res_main_v187 V0 = D0 at h0 h1 h2 h3 h4 h5 h6 h7 ⊢
  generalize res_main_v173 V0 = S0 at h0 h1 h2 h3 h4 h5 h6 h7 ⊢
  generalize res_main_v211 V0 = D1 at h0 h1 h2 h3 h4 h5 h6 h7 ⊢
  generalize res_main_v197 V0 = S1 at h0 h1 h2 h3 h4 h5 h6 h7 ⊢
  generalize res_main_v235 V0 = D2 at h0 h1 h2 h3 h4 h5 h6 h7 ⊢
  generalize res_main_v221 V0 = S2 at h0 h1 h2 h3 h4 h5 h6 h7 ⊢
  generalize res_main_v259 V0 = D3 at h0 h1 h2 h3 h4 h5 h6 h7 ⊢
  generalize res_main_v245 V0 = S3 at h0 h1 h2 h3 h4 h5 h6 h7 ⊢
  generalize res_main_v283 V0 = D4 at h0 h1 h2 h3 h4 h5 h6 h7 ⊢
  generalize res_main_v269 V0 = S4 at h0 h1 h2 h3 h4 h5 h6 h7 ⊢
  generalize res_main_v307 V0 = D5 at h0 h1 h2 h3 h4 h5 h6 h7 ⊢
  generalize res_main_v293 V0 = S5 at h0 h1 h2 h3 h4 h5 h6 h7 ⊢
  generalize res_main_v331 V0 = D6 at h0 h1 h2 h3 h4 h5 h6 h7 ⊢
  generalize res_main_v317 V0 = S6 at h0 h1 h2 h3 h4 h5 h6 h7 ⊢
  generalize res_main_v355 V0 = D7 at h0 h1 h2 h3 h4 h5 h6 h7 ⊢
  generalize res_main_v341 V0 = S7 at h0 h1 h2 h3 h4 h5 h6 h7 ⊢
  generalize res_main_v160 V0 = Y at h0 h1 h2 h3 h4 h5 h6 h7 ⊢
  generalize res_main_v155 V0 = Z at h0 h1 h2 h3 h4 h5 h6 h7 ⊢
  pointwise
  simp only [h0, h1, h2, h3, h4, h5, h6, h7]
  fin_cases n <;> rfl

/-- The states after the last chunk. -/
theorem state_8 : ∀ d w, lastState (res_main_v172 V0) (res_main_v169 V0) (res_main_v341 V0) (res_main_v355 V0) (ix5 b kh r d w) = ((a.stateAt b (head kh r) 8 d w : ℝ) : EReal) := by
  refine advanced hin hr b kh r 7 (res_main_v341 V0) _ (res_main_v355 V0) (state_7 hin hr b kh r) (corrected_7 hin hr b kh r) fun Y Z hY hZ d w => ?_
  rw [← hY, ← hZ]
  generalize res_main_v341 V0 = X
  generalize res_main_v355 V0 = D
  pointwise [lastState]

end

/-- A value head by its key head and its place in it. -/
theorem head_split (h : Fin 20) : head ⟨h.val / 2, by omega⟩ ⟨h.val % 2, by omega⟩ = h := Fin.ext (by simp only []; omega)

/-- The outputs laid out by batch entry, position and head. -/
theorem outputs_laid (X : FVec Ideal S8x3x64x10x2x256 .f32) (a : Args)
    (hX : ∀ n b i kh r w, X (ix6 n b i kh r w) = ((a.out b n i (head kh r) w : ℝ) : EReal)) :
    (truncf .bf16 (shapeCast S3x512x20x256 (transpose S3x8x64x10x2x256 [1, 0, 2, 3, 4, 5] X transposes_S8x3x64x10x2x256_S3x8x64x10x2x256_1_0_2_3_4_5) shapeCasts_S3x8x64x10x2x256_S3x512x20x256) bitsLt_bf16_f32 : FVec Ideal S3x512x20x256 .bf16)
      = fun y => ((a.out (y 0) ⟨(y 1).val / 64, by have := (y 1).isLt; change (y 1).val < 512 at this; omega⟩ ⟨(y 1).val % 64, by omega⟩ (y 2) (y 3) : ℝ) : EReal) := by
  funext y
  have e := hX ⟨(y 1).val / 64, by have := (y 1).isLt; change (y 1).val < 512 at this; omega⟩ (y 0) ⟨(y 1).val % 64, by omega⟩
    ⟨(y 2).val / 2, by have := (y 2).isLt; change (y 2).val < 20 at this; omega⟩ ⟨(y 2).val % 2, by omega⟩ (y 3)
  rw [show head ⟨(y 2).val / 2, by have := (y 2).isLt; change (y 2).val < 20 at this; omega⟩ ⟨(y 2).val % 2, by omega⟩ = y 2 from head_split (y 2)] at e
  rw [← e]
  pointwise

/-- The final states laid out by batch entry and head. -/
theorem states_laid (X : FVec Ideal S3x10x2x128x256 .f32) (a : Args)
    (hX : ∀ b kh r d w, X (ix5 b kh r d w) = ((a.stateAt b (head kh r) 8 d w : ℝ) : EReal)) :
    (shapeCast S3x20x128x256 X shapeCasts_S3x10x2x128x256_S3x20x128x256 : FVec Ideal S3x20x128x256 .f32)
      = fun y => ((a.stateAt (y 0) (y 1) 8 (y 2) (y 3) : ℝ) : EReal) := by
  funext y
  have e := hX (y 0) ⟨(y 1).val / 2, by have := (y 1).isLt; change (y 1).val < 20 at this; omega⟩ ⟨(y 1).val % 2, by omega⟩ (y 2) (y 3)
  rw [show head ⟨(y 1).val / 2, by have := (y 1).isLt; change (y 1).val < 20 at this; omega⟩ ⟨(y 1).val % 2, by omega⟩ = y 1 from head_split (y 1)] at e
  rw [← e]
  pointwise

/-- The codes laid out by batch entry, position and key head. -/
theorem codes_laid (X : FVec Ideal S240x8192 .fp8e4m3) (x : Fin 3 → Fin 512 → Fin 10 → Fin 128 → EReal)
    (hX : ∀ (b : Fin 3) (n : Fin 8) (kh : Fin 10) (i : Fin 64) (d : Fin 128),
      X (ix2 ⟨b.val * 80 + n.val * 10 + kh.val, by omega⟩ ⟨i.val * 128 + d.val, by omega⟩) = ((Args.codes x b n i kh d : ℝ) : EReal)) :
    (shapeCast S3x512x10x128 (transpose S3x8x64x10x128 [0, 1, 3, 2, 4] (shapeCast S3x8x10x64x128 X shapeCasts_S240x8192_S3x8x10x64x128) transposes_S3x8x10x64x128_S3x8x64x10x128_0_1_3_2_4) shapeCasts_S3x8x64x10x128_S3x512x10x128 : FVec Ideal S3x512x10x128 .fp8e4m3)
      = fun y => ((Args.codes x (y 0) ⟨(y 1).val / 64, by have := (y 1).isLt; change (y 1).val < 512 at this; omega⟩ ⟨(y 1).val % 64, by omega⟩ (y 2) (y 3) : ℝ) : EReal) := by
  funext y
  have e := hX (y 0) ⟨(y 1).val / 64, by have := (y 1).isLt; change (y 1).val < 512 at this; omega⟩ (y 2) ⟨(y 1).val % 64, by omega⟩ (y 3)
  rw [← e]
  pointwise

/-- The scales are laid out already. -/
theorem scales_laid (X : FVec Ideal S3x8x10 .f32) (x : Fin 3 → Fin 512 → Fin 10 → Fin 128 → EReal)
    (hX : ∀ b n kh, X (ix3 b n kh) = ((Args.scale x b n kh : ℝ) : EReal)) :
    X = fun y => ((Args.scale x (y 0) (y 1) (y 2) : ℝ) : EReal) := by
  funext y
  have e : y = ix3 (y 0) (y 1) (y 2) := by funext k; match k with | ⟨0, _⟩ => rfl | ⟨1, _⟩ => rfl | ⟨2, _⟩ => rfl
  exact (congrArg X e).trans (hX (y 0) (y 1) (y 2))

end Cert.ReferenceIdeal.Stages

end
-- ==== Proof.RefUnits.lean ====
/- The reference's quantiser: one row per batch entry, chunk and key head, read at a row and a lane. -/
module

public import proofs.«01_k».proof.Proof.Gen.ReferenceIdeal.Frame
public import proofs.«01_k».proof.Proof.Args
public import Idealize.ShloMosaic.Lib.Pipeline.ValueKit

@[expose] public section

set_option maxRecDepth 16384

noncomputable section

namespace Cert.ReferenceIdeal.Units

open Cert.ReferenceIdeal Cert.ReferenceIdeal.Gen Idealize.ShloMosaic Idealize.ShloMosaic.TcCoe Idealize.SL.Sem Cert.Chunk Cert.Quant

/-- The row of a chunk of a key head. -/
abbrev row (b : Fin 3) (n : Fin 8) (kh : Fin 10) : Fin 240 := ⟨b.val * 80 + n.val * 10 + kh.val, by omega⟩
/-- The lane of an entry of a chunk. -/
abbrev lane (i : Fin 64) (d : Fin 128) : Fin 8192 := ⟨i.val * 128 + d.val, by omega⟩

/-- The largest over a set reached through pairs is the largest over the pairs. -/
theorem sup_pairs {α β γ : Type} [Fintype α] [Fintype β] [Fintype γ] (g : α → β → γ) (hg : ∀ l, ∃ i d, g i d = l) (f : γ → EReal) :
    Finset.univ.sup f = Finset.univ.sup fun i => Finset.univ.sup fun d => f (g i d) := by
  apply le_antisymm
  · refine Finset.sup_le fun l _ => ?_
    obtain ⟨i, d, rfl⟩ := hg l
    exact (Finset.le_sup (f := fun d => f (g i d)) (Finset.mem_univ d)).trans
      (Finset.le_sup (f := fun i => Finset.univ.sup fun d => f (g i d)) (Finset.mem_univ i))
  · exact Finset.sup_le fun i _ => Finset.sup_le fun d _ => Finset.le_sup (f := f) (Finset.mem_univ _)

/-- Every lane is that of an entry of a chunk. -/
theorem lanes (l : Fin 8192) : ∃ i d, lane i d = l :=
  ⟨⟨l.val / 128, by omega⟩, ⟨l.val % 128, by omega⟩, Fin.ext (by simp only []; omega)⟩

/-- The powers the scale is chosen from. -/
theorem power_at (j : Fin 254) :
    FloatOps.exp2 (F := Ideal) (φ := .f32) (FloatOps.sitofp .f32 (IntOp.subi (BitVec.ofNat 32 j.val) 126#32))
      = ((pw (j.val + 1) : ℝ) : EReal) := by
  have hi : ∀ j : Fin 254, (IntOp.subi (BitVec.ofNat 32 j.val) 126#32).toInt = (j.val : ℤ) - 126 := by decide +kernel
  show Ideal.exp2 (((IntOp.subi (BitVec.ofNat 32 j.val) 126#32).toInt : ℝ) : EReal) = _
  rw [hi j, pw, Ideal.exp2_coe]
  congr 1
  rw [show ((j.val + 1 : ℕ) : ℤ) - 127 = (j.val : ℤ) - 126 by push_cast; ring]
  exact Real.rpow_intCast 2 _

/-- The code of an entry from its row's scale. -/
theorem codes_core (r : Fin 240) (l : Fin 8192) (X : FVec Ideal S240x8192 .f32) (Y : FVec Ideal S240x1 .f32) :
    (truncf .fp8e4m3 (minimumf (broadcast S240x8192 (Scalar.ofBits .f32 0x43E00000#32))
      (maximumf (broadcast S240x8192 (Scalar.ofBits .f32 0xC3E00000#32))
        (mulf (shapeCast S240x8192 X shapeCasts_S240x8192_S240x8192)
          (broadcastTo S240x8192 (divf (broadcast S240x1 (Scalar.ofBits .f32 0x3F800000#32)) Y) broadcasts_S240x1_S240x8192))))
      bitsLt_fp8e4m3_f32 : FVec Ideal S240x8192 .fp8e4m3) (ix2 r l)
    = min (Ideal.ofBits .f32 1138753536#32) (max (Ideal.ofBits .f32 3286237184#32) (X (ix2 r l) * Ideal.div 1 (Y (ix2 r 0)))) := by
  pointwise

/-- The scale from the largest magnitude. -/
theorem scale_core (r : Fin 240) (M : FVec Ideal S240x1 .f32) (a : EReal) (hM : M (ix2 r 0) = a) :
    (select (cmpf .oeq M (broadcast S240x1 (Scalar.ofBits .f32 0x00000000#32))) (broadcast S240x1 (Scalar.ofBits .f32 0x3F800000#32))
      (shapeCast S240x1 (multiReduction .minimumf [1] S240
        (select (cmpf .ogt
            (broadcastTo S240x254 (exp2 (sitofp .f32 (subi (iota .tc S1x254 32 [1] iota_S1x254_d1_w32) (broadcast S1x254 126#32)))) broadcasts_S1x254_S240x254)
            (broadcastTo S240x254 (mulf M (broadcast S240x1 (Scalar.ofBits .f32 0x3B124925#32))) broadcasts_S240x1_S240x254))
          (broadcastTo S240x254 (shapeCast S1x254 (exp2 (sitofp .f32 (subi (iota .tc S1x254 32 [1] iota_S1x254_d1_w32) (broadcast S1x254 126#32)))) shapeCasts_S1x254_S1x254) broadcasts_S1x254_S240x254)
          (broadcast S240x254 (Scalar.ofBits .f32 0x7F800000#32)))
        0x7F800000#32 reduces_S240x254_S240 (.inl rfl) rfl) shapeCasts_S240_S240x1) : FVec Ideal S240x1 .f32) (ix2 r 0)
    = if a = 0 then 1 else Finset.fold min (Ideal.ofBits .f32 2139095040#32)
        (fun x : Fin 254 =>
          if a * Ideal.ofBits .f32 991054117#32
              < FloatOps.exp2 (F := Ideal) (φ := .f32) (FloatOps.sitofp .f32 (IntOp.subi (BitVec.ofNat 32 x.val) 126#32))
          then FloatOps.exp2 (F := Ideal) (φ := .f32) (FloatOps.sitofp .f32 (IntOp.subi (BitVec.ofNat 32 x.val) 126#32))
          else Ideal.ofBits .f32 2139095040#32) Finset.univ := by
  subst hM
  pointwise

/-- The largest magnitude of a row. -/
theorem amax_core (r : Fin 240) (X : FVec Ideal S240x8192 .f32) :
    (shapeCast S240x1 (multiReduction .maximumf [1] S240 (absf (shapeCast S240x8192 X shapeCasts_S240x8192_S240x8192))
      0xFF800000#32 reduces_S240x8192_S240 (.inl rfl) rfl) shapeCasts_S240_S240x1 : FVec Ideal S240x1 .f32) (ix2 r 0)
    = Finset.fold max (Ideal.ofBits .f32 4286578688#32) (fun l : Fin 8192 => FloatOps.absf (F := Ideal) (φ := .f32) (X (ix2 r l))) Finset.univ := by
  pointwise

section Row

variable (X : FVec Ideal S240x8192 .f32) (f : Fin 3 → Fin 512 → Fin 10 → Fin 128 → EReal)
  (hf : ∀ b s kh d, ∃ r : ℝ, f b s kh d = (r : EReal) ∧ |r| ≤ 2 ^ 128) (b : Fin 3) (n : Fin 8) (kh : Fin 10)
  (hx : ∀ i d, X (ix2 (row b n kh) (lane i d)) = f b (tok n i) kh d)
include hf hx

/-- The scale of a row. -/
theorem scale_row : k0_pay6 (F := Ideal) X (ix2 (row b n kh) 0) = ((Args.scale f b n kh : ℝ) : EReal) := by
  have e : Finset.fold max (Ideal.ofBits .f32 4286578688#32)
      (fun l : Fin 8192 => FloatOps.absf (F := Ideal) (φ := .f32) (X (ix2 (row b n kh) l))) Finset.univ = amax f b n kh := by
    rw [bot_bits]
    refine (sup_pairs lane lanes fun l => mag (X (ix2 (row b n kh) l))).trans ?_
    rw [amax]
    exact Finset.sup_congr rfl fun i _ => Finset.sup_congr rfl fun d _ => by rw [hx]
  refine (scale_core (row b n kh) _ _ ((amax_core (row b n kh) X).trans e)).trans ?_
  rw [top_bits]
  exact reference_scale (amax_bounded f hf b n kh) _ power_at

/-- The code of an entry of a row. -/
theorem code_row (i : Fin 64) (d : Fin 128) :
    k0_pay7 (F := Ideal) X (ix2 (row b n kh) (lane i d)) = ((Args.codes f b n i kh d : ℝ) : EReal) := by
  refine (codes_core (row b n kh) (lane i d) X (k0_pay6 (F := Ideal) X)).trans ?_
  rw [scale_row X f hf b n kh hx, hx, top_coe, bottom_coe]
  obtain ⟨x, e, -⟩ := hf b (tok n i) kh d
  have h0 : Args.scale f b n kh ≠ 0 := (qscale_pos _).ne'
  rw [Args.codes, code, e, EReal.toReal_coe, Ideal.div, if_neg (by exact_mod_cast h0), one_mul, coe_min, coe_max, EReal.coe_mul,
    one_div, EReal.coe_inv]

end Row

variable (m : (ℓ : Loc nD τ sig) → Buf (Elt Ideal) ℓ) (c : Dev nD)

/-- The arguments a device holds. -/
def args : Args where
  q b s kh d := m ((c : Thread nD τ).loc main_arg0) (ix4 b s kh d)
  k b s kh d := m ((c : Thread nD τ).loc main_arg1) (ix4 b s kh d)
  v b s h w := m ((c : Thread nD τ).loc main_arg2) (ix4 b s h w)
  g b s h := m ((c : Thread nD τ).loc main_arg3) (ix3 b s h)
  beta b s h := m ((c : Thread nD τ).loc main_arg4) (ix3 b s h)
  s b h d w := m ((c : Thread nD τ).loc main_arg5) (ix4 b h d w)

/-- The key rows hold the keys. -/
theorem entry_keys (b : Fin 3) (n : Fin 8) (kh : Fin 10) (i : Fin 64) (d : Fin 128) :
    V m c main_v3 (ix2 (row b n kh) (lane i d)) = (args m c).k b (tok n i) kh d := by
  have e : V m c main_v3 (ix2 ⟨b.val * 80 + n.val * 10 + kh.val, by omega⟩ ⟨i.val * 128 + d.val, by omega⟩) = m ((c : Thread nD τ).loc main_arg1) (ix4 b ⟨n.val * 64 + i.val, by omega⟩ kh d) := by
    show StableHlo.after hostOps0 (fun b => m (c, b)) _ _ = _
    entry_read
    pointwise
  refine e.trans ?_
  unfold args
  dsimp only
  rw [show (⟨n.val * 64 + i.val, by omega⟩ : Fin 512) = tok n i from Fin.ext (by simp only []; omega)]

/-- The query rows hold the queries. -/
theorem entry_queries (b : Fin 3) (n : Fin 8) (kh : Fin 10) (i : Fin 64) (d : Fin 128) :
    V m c main_v7 (ix2 (row b n kh) (lane i d)) = (args m c).q b (tok n i) kh d := by
  have e : V m c main_v7 (ix2 ⟨b.val * 80 + n.val * 10 + kh.val, by omega⟩ ⟨i.val * 128 + d.val, by omega⟩) = m ((c : Thread nD τ).loc main_arg0) (ix4 b ⟨n.val * 64 + i.val, by omega⟩ kh d) := by
    show StableHlo.after hostOps0 (fun b => m (c, b)) _ _ = _
    entry_read
    pointwise
  refine e.trans ?_
  unfold args
  dsimp only
  rw [show (⟨n.val * 64 + i.val, by omega⟩ : Fin 512) = tok n i from Fin.ext (by simp only []; omega)]

/-- Both operands are read in one block, the whole. -/
theorem idx : ∀ t : Fin cfg0.N, win0_0.index t = ![0, 0] ∧ win0_1.index t = ![0, 0] := (by decide +kernel : ∀ t : Fin grid0.N, _)

/-- The block of keys is the whole operand. -/
theorem block_keys : iblk m c 0 t0_0 = V m c main_v3 := by
  funext j
  blk_simp [iblk, idx t0_0]
  congr 1
  blk_ext [idx t0_0]
/-- The block of queries is the whole operand. -/
theorem block_queries : iblk m c 1 t0_0 = V m c main_v7 := by
  funext j
  blk_simp [iblk, idx t0_0]
  congr 1
  blk_ext [idx t0_0]

/-- The key codes the quantiser leaves. -/
theorem final2 : (dats m 0 c).arrAt 2 cfg0.N = k0_pay7 (F := Ideal) (V m c main_v3) := by
  refine (dats m 0 c).arrAt_eq_of_after_last 2 t0_0 (by decide +kernel) _ fun j => ?_
  blk_simp
  rw [after0_2]
  frame_out
  rw [block_keys]
/-- The key codes as float32 that the quantiser leaves. -/
theorem final3 : (dats m 0 c).arrAt 3 cfg0.N = k0_pay8 (F := Ideal) (V m c main_v3) := by
  refine (dats m 0 c).arrAt_eq_of_after_last 3 t0_0 (by decide +kernel) _ fun j => ?_
  blk_simp
  rw [after0_3]
  frame_out
  rw [block_keys]
/-- The key scales the quantiser leaves. -/
theorem final4 : (dats m 0 c).arrAt 4 cfg0.N = k0_pay6 (F := Ideal) (V m c main_v3) := by
  refine (dats m 0 c).arrAt_eq_of_after_last 4 t0_0 (by decide +kernel) _ fun j => ?_
  blk_simp
  rw [after0_4]
  frame_out
  rw [block_keys]
/-- The query codes the quantiser leaves. -/
theorem final5 : (dats m 0 c).arrAt 5 cfg0.N = k0_pay3 (F := Ideal) (V m c main_v7) := by
  refine (dats m 0 c).arrAt_eq_of_after_last 5 t0_0 (by decide +kernel) _ fun j => ?_
  blk_simp
  rw [after0_5]
  frame_out
  rw [block_queries]
/-- The query codes as float32 that the quantiser leaves. -/
theorem final6 : (dats m 0 c).arrAt 6 cfg0.N = k0_pay4 (F := Ideal) (V m c main_v7) := by
  refine (dats m 0 c).arrAt_eq_of_after_last 6 t0_0 (by decide +kernel) _ fun j => ?_
  blk_simp
  rw [after0_6]
  frame_out
  rw [block_queries]
/-- The query scales the quantiser leaves. -/
theorem final7 : (dats m 0 c).arrAt 7 cfg0.N = k0_pay2 (F := Ideal) (V m c main_v7) := by
  refine (dats m 0 c).arrAt_eq_of_after_last 7 t0_0 (by decide +kernel) _ fun j => ?_
  blk_simp
  rw [after0_7]
  frame_out
  rw [block_queries]

end Cert.ReferenceIdeal.Units

end
-- ==== Proof.RefResults.lean ====
/- The six result arrays of the reference. -/
module

public import proofs.«01_k».proof.Proof.RefOutputs
public import proofs.«01_k».proof.Proof.RefUnits
public import Idealize.ShloMosaic.Lib.Pipeline.ValueKit
public import Idealize.ShloMosaic.Lib.Claim

@[expose] public section

set_option maxRecDepth 16384

noncomputable section

namespace Cert.ReferenceIdeal.Stages

open Cert.ReferenceIdeal Cert.ReferenceIdeal.Gen Cert.ReferenceIdeal.Value Cert.ReferenceIdeal.Units
open Idealize.ShloMosaic Idealize.ShloMosaic.TcCoe Idealize.SL.Sem Cert.Chunk

variable (m : (ℓ : Loc nD τ sig) → Buf (Elt Ideal) ℓ) (c : Dev nD) (hr : (args m c).Real)
include hr

/-- The key codes the quantiser leaves. -/
theorem left_kcodes (b : Fin 3) (n : Fin 8) (kh : Fin 10) (i : Fin 64) (d : Fin 128) :
    exitV m c (Proc.devRef .tc main_v8_0) (ix2 (row b n kh) (lane i d)) = ((Args.codes (args m c).k b n i kh d : ℝ) : EReal) := by
  rw [exit_main_v8_0]
  exact (congrFun (final2 m c) _).trans (code_row _ _ hr.k b n kh (entry_keys m c b n kh) i d)

/-- The query codes the quantiser leaves. -/
theorem left_qcodes (b : Fin 3) (n : Fin 8) (kh : Fin 10) (i : Fin 64) (d : Fin 128) :
    exitV m c (Proc.devRef .tc main_v8_3) (ix2 (row b n kh) (lane i d)) = ((Args.codes (args m c).q b n i kh d : ℝ) : EReal) := by
  rw [exit_main_v8_3]
  exact (congrFun (final5 m c) _).trans (code_row _ _ hr.q b n kh (entry_queries m c b n kh) i d)

/-- What the later operations read. -/
theorem inputs : Inputs (exitV m c) (args m c) where
  q b s kh d := congrFun (exit_main_arg0 m c) _
  k b s kh d := congrFun (exit_main_arg1 m c) _
  v b s h w := congrFun (exit_main_arg2 m c) _
  g b s h := congrFun (exit_main_arg3 m c) _
  beta b s h := congrFun (exit_main_arg4 m c) _
  s b h d w := congrFun (exit_main_arg5 m c) _
  kv b n kh i d := by
    rw [exit_main_v8_1]
    exact (congrFun (final3 m c) _).trans (code_row _ _ hr.k b n kh (entry_keys m c b n kh) i d)
  ks b n kh := by
    rw [exit_main_v8_2]
    exact (congrFun (final4 m c) _).trans (scale_row _ _ hr.k b n kh (entry_keys m c b n kh))
  qv b n kh i d := by
    rw [exit_main_v8_4]
    exact (congrFun (final6 m c) _).trans (code_row _ _ hr.q b n kh (entry_queries m c b n kh) i d)
  qs b n kh := by
    rw [exit_main_v8_5]
    exact (congrFun (final7 m c) _).trans (scale_row _ _ hr.q b n kh (entry_queries m c b n kh))

omit hr in
/-- The reference's run: every result array at the end. -/
theorem run (hr : ∀ c, (args m c).Real) (ρ : Dev nD → PrngReg) :
    θ_run defs (onTc (τ := τ) (main (F := Ideal))) ⟨m, fun _ => 0, ρ⟩ fun r => ∀ c : Dev nD,
      r.2.mem ((c.tc : Thread nD τ).loc main_v377) = (fun y => (((args m c).out (y 0) ⟨(y 1).val / 64, by have := (y 1).isLt; change (y 1).val < 512 at this; omega⟩ ⟨(y 1).val % 64, by omega⟩ (y 2) (y 3) : ℝ) : EReal))
      ∧ r.2.mem ((c.tc : Thread nD τ).loc main_v378) = (fun y => (((args m c).stateAt (y 0) (y 1) 8 (y 2) (y 3) : ℝ) : EReal))
      ∧ r.2.mem ((c.tc : Thread nD τ).loc main_v11) = (fun y => ((Args.codes (args m c).k (y 0) ⟨(y 1).val / 64, by have := (y 1).isLt; change (y 1).val < 512 at this; omega⟩ ⟨(y 1).val % 64, by omega⟩ (y 2) (y 3) : ℝ) : EReal))
      ∧ r.2.mem ((c.tc : Thread nD τ).loc main_v19) = (fun y => ((Args.scale (args m c).k (y 0) (y 1) (y 2) : ℝ) : EReal))
      ∧ r.2.mem ((c.tc : Thread nD τ).loc main_v14) = (fun y => ((Args.codes (args m c).q (y 0) ⟨(y 1).val / 64, by have := (y 1).isLt; change (y 1).val < 512 at this; omega⟩ ⟨(y 1).val % 64, by omega⟩ (y 2) (y 3) : ℝ) : EReal))
      ∧ r.2.mem ((c.tc : Thread nD τ).loc main_v20) = (fun y => ((Args.scale (args m c).q (y 0) (y 1) (y 2) : ℝ) : EReal)) := by
  refine (θ_run defs _ _).mono (fun _ h c => ?_) (Value.run m ρ)
  have hin := inputs m c (hr c)
  obtain ⟨h0, h1, h2, h3, h4, h5, -⟩ := h c
  refine ⟨h0.trans ?_, h1.trans ?_, h2.trans ?_, h3.trans ?_, h4.trans ?_, h5.trans ?_⟩
  · exact outputs_laid _ _ fun n b i kh r w => outputs hin (hr c) b kh r n i w
  · exact states_laid (lastState (res_main_v172 (exitV m c)) (res_main_v169 (exitV m c)) (res_main_v341 (exitV m c)) (res_main_v355 (exitV m c))) _ fun b kh r d w => state_8 hin (hr c) b kh r d w
  · exact codes_laid _ _ (left_kcodes m c (hr c))
  · exact scales_laid _ _ fun b n kh => kscale hin b n kh
  · exact codes_laid _ _ (left_qcodes m c (hr c))
  · exact scales_laid _ _ fun b n kh => qscale hin b n kh

end Cert.ReferenceIdeal.Stages

end
-- ==== Proof.Finite.lean ====
/- Inputs of finite magnitude are real numbers. -/
module

public import proofs.«01_k».proof.Proof.Entry
public import proofs.«01_k».proof.Defs
public import proofs.«01_k».proof.Proof.Gen.Pre_finite_inputs
public import Idealize.ShloMosaic.Lib.Pipeline.ValueKit

@[expose] public section

set_option maxRecDepth 16384

noncomputable section

namespace Cert.KernelIdeal.Head

open Cert.KernelIdeal Cert.KernelIdeal.Gen Idealize.ShloMosaic Idealize.ShloMosaic.TcCoe Idealize.SL.Sem Cert.Chunk

/-- What a magnitude no larger than a real number is the magnitude of, is a real number. -/
theorem real_of_le {x t : EReal} {T : ℝ} (ht : t = (T : EReal)) (h : Ideal.cmp .ole (max x (-x)) t = 1#1) :
    ∃ r : ℝ, x = (r : EReal) ∧ |r| ≤ T := by
  have hle : max x (-x) ≤ t := by
    by_contra hn
    have e : Ideal.cmp .ole (max x (-x)) t = BitVec.ofBool (decide (max x (-x) ≤ t)) := rfl
    rw [e, decide_eq_false hn] at h
    exact absurd h (by decide)
  rw [ht] at hle
  induction x using EReal.rec with
  | bot => exact absurd hle (by simp)
  | top => exact absurd hle (by simp)
  | coe r =>
    refine ⟨r, rfl, ?_⟩
    rw [← EReal.coe_neg, ← coe_max] at hle
    exact_mod_cast hle

/-- The largest magnitudes as numbers. -/
theorem bf16_top : ∃ T : ℝ, Ideal.ofBits .f32 0x7F7F0000#32 = (T : EReal) ∧ T ≤ 2 ^ 128 := by
  refine ⟨(Ideal.ofBits .f32 0x7F7F0000#32).toReal, ?_, ?_⟩
  · simp [Ideal.ofBits, Ideal.ieee, -EReal.coe_mul]
  · simp [Ideal.ofBits, Ideal.ieee, -EReal.coe_mul]
    norm_num
/-- The largest float32 number is a real number. -/
theorem f32_top : ∃ T : ℝ, Ideal.ofBits .f32 0x7F7FFFFF#32 = (T : EReal) := by
  refine ⟨(Ideal.ofBits .f32 0x7F7FFFFF#32).toReal, ?_⟩
  simp [Ideal.ofBits, Ideal.ieee, -EReal.coe_mul]

/-- Under the precondition the arguments are real numbers. -/
theorem real_args (m : (ℓ : Loc nD τ sig) → Buf (Elt Ideal) ℓ) (h : Cert.Pre_KernelIdeal_finite_inputs m) (c : Dev nD) : (args m c).Real := by
  obtain ⟨h0, h1, h2, h3, h4, h5⟩ := h c
  obtain ⟨T, hT, hT'⟩ := bf16_top
  obtain ⟨U, hU⟩ := f32_top
  constructor
  · intro b s kh d
    obtain ⟨r, e, hr⟩ := real_of_le hT (congrFun h0 (ix4 b s kh d))
    exact ⟨r, e, hr.trans hT'⟩
  · intro b s kh d
    obtain ⟨r, e, hr⟩ := real_of_le hT (congrFun h1 (ix4 b s kh d))
    exact ⟨r, e, hr.trans hT'⟩
  · intro b s h w
    obtain ⟨r, e, -⟩ := real_of_le hT (congrFun h2 (ix4 b s h w))
    exact ⟨r, e⟩
  · intro b s h
    obtain ⟨r, e, -⟩ := real_of_le hU (congrFun h3 (ix3 b s h))
    exact ⟨r, e⟩
  · intro b s h
    obtain ⟨r, e, -⟩ := real_of_le hU (congrFun h4 (ix3 b s h))
    exact ⟨r, e⟩
  · intro b h d w
    obtain ⟨r, e, -⟩ := real_of_le hU (congrFun h5 (ix4 b h d w))
    exact ⟨r, e⟩

end Cert.KernelIdeal.Head

end
-- ==== Proof.Algebraic.lean ====
/- Kernel and reference end with equal results. -/
module

public import proofs.«01_k».proof.Proof.Results
public import proofs.«01_k».proof.Proof.RefResults
public import proofs.«01_k».proof.Proof.Finite
public import proofs.«01_k».proof.Defs
public import proofs.«01_k».proof.Proof.Gen.KernelIdeal.Frame
public import proofs.«01_k».proof.Proof.Gen.ReferenceIdeal.Frame
public import Idealize.ShloMosaic.Lib.Claim

@[expose] public section

set_option maxRecDepth 16384

noncomputable section

namespace Cert.Proof

open Idealize.ShloMosaic Idealize.SL.Sem

/-- Over the extended reals, from equal finite inputs, the kernel and the reference end with equal outputs, final states,
    codes and scales. -/
theorem algebraic : Cert.algebraic_KernelIdeal_ReferenceIdeal_pre_finite_inputs := by
  pair_intro
  · run_from Cert.KernelIdeal.Head.run m (Cert.KernelIdeal.Head.real_args m hpre) g & Cert.KernelIdeal.Gen.frame m g
  · have ha : ∀ c, Cert.ReferenceIdeal.Units.args m' c = Cert.KernelIdeal.Head.args m c := fun c => by
      obtain ⟨h0, h1, h2, h3, h4, h5⟩ := hagree c
      simp only [Cert.ReferenceIdeal.Units.args, Cert.KernelIdeal.Head.args]
      congr 1
      · funext b s kh d; exact congrFun h0 (ix4 b s kh d)
      · funext b s kh d; exact congrFun h1 (ix4 b s kh d)
      · funext b s h w; exact congrFun h2 (ix4 b s h w)
      · funext b s h; exact congrFun h3 (ix3 b s h)
      · funext b s h; exact congrFun h4 (ix3 b s h)
      · funext b h d w; exact congrFun h5 (ix4 b h d w)
    have hr : ∀ c, (Cert.ReferenceIdeal.Units.args m' c).Real := fun c => by
      rw [ha c]; exact Cert.KernelIdeal.Head.real_args m hpre c
    have R := Cert.ReferenceIdeal.Stages.run m' hr g'
    simp only [ha] at R
    run_from R & Cert.ReferenceIdeal.Gen.frame m' g'

end Cert.Proof

end
-- ==== Proof.lean ====
/- The proof of every claim the certificate states. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite_inputs
public import proofs.«01_k».proof.Proof.Gen.ReferenceIdeal.Run
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every claim: the three programs' frames, that the idealised kernel is the kernel, and that it computes the reference. -/
theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ, trivial, algebraic⟩

end Cert.Proof

end
